-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_gates_finite : Cert.Pre_gates_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ preserves_Kernel_KernelIdeal
    ∧ algebraic_KernelIdeal_ReferenceIdeal_pre_gates_finite (hKernelIdeal := hKernelIdeal) (hReferenceIdeal := hReferenceIdeal) (hPre_gates_finite := hPre_gates_finite)
-- ==== Pre_gates_finite.lean ====
abbrev S512x3x32x32 : Shape := ⟨4, ![512, 3, 32, 32]⟩
abbrev S8x384x3x3x3 : Shape := ⟨5, ![8, 384, 3, 3, 3]⟩
abbrev S8x384 : Shape := ⟨2, ![8, 384]⟩
abbrev S384x3x3x3 : Shape := ⟨4, ![384, 3, 3, 3]⟩
abbrev S384 : Shape := ⟨1, ![384]⟩
abbrev S384x8 : Shape := ⟨2, ![384, 8]⟩
abbrev S8 : Shape := ⟨1, ![8]⟩
abbrev S8x1536x100 : Shape := ⟨3, ![8, 1536, 100]⟩
abbrev S8x100 : Shape := ⟨2, ![8, 100]⟩
abbrev S1536x8 : Shape := ⟨2, ![1536, 8]⟩
abbrev S_ : Shape := ⟨0, ![]⟩

class Facts : Prop where
  bcast_S_S512x3x32x32 : S_.BroadcastsInDim S512x3x32x32 (![] : Fin 0 → Fin S512x3x32x32.rank)
  bcast_S_S8x384x3x3x3 : S_.BroadcastsInDim S8x384x3x3x3 (![] : Fin 0 → Fin S8x384x3x3x3.rank)
  bcast_S_S8x384 : S_.BroadcastsInDim S8x384 (![] : Fin 0 → Fin S8x384.rank)
  bcast_S_S384x3x3x3 : S_.BroadcastsInDim S384x3x3x3 (![] : Fin 0 → Fin S384x3x3x3.rank)
  bcast_S_S384 : S_.BroadcastsInDim S384 (![] : Fin 0 → Fin S384.rank)
  bcast_S_S384x8 : S_.BroadcastsInDim S384x8 (![] : Fin 0 → Fin S384x8.rank)
  bcast_S_S8 : S_.BroadcastsInDim S8 (![] : Fin 0 → Fin S8.rank)
  bcast_S_S1536x8 : S_.BroadcastsInDim S1536x8 (![] : Fin 0 → Fin S1536x8.rank)

variable [Facts]

def fn_part1 {F : FTy → Type} [FloatOps F] (main_arg6 : FVec F S8 .f32) (main_arg9 : FVec F S1536x8 .f32) (main_arg10 : FVec F S8 .f32) (main_v2 : IVec S512x3x32x32 1) (main_v5 : IVec S8x384x3x3x3 1) (main_v8 : IVec S8x384 1) (main_v11 : IVec S384x3x3x3 1) (main_v14 : IVec S384 1) (main_v17 : IVec S384x8 1) : IVec S512x3x32x32 1 × IVec S8x384x3x3x3 1 × IVec S8x384 1 × IVec S384x3x3x3 1 × IVec S384 1 × IVec S384x8 1 × IVec S8 1 × IVec S1536x8 1 × IVec S8 1 :=
  let main_v18 : FVec F S8 .f32 := Host.absf main_arg6
  let main_cst_5 : FVec F S_ .f32 := constant S_ .f32 0x7F800000#32
  let main_v19 : FVec F S8 .f32 := broadcastInDim S8 ![] bcast_S_S8 main_cst_5
  let main_v20 : IVec S8 1 := cmpf .olt main_v18 main_v19
  let main_v21 : FVec F S1536x8 .f32 := Host.absf main_arg9
  let main_cst_6 : FVec F S_ .f32 := constant S_ .f32 0x7F800000#32
  let main_v22 : FVec F S1536x8 .f32 := broadcastInDim S1536x8 ![] bcast_S_S1536x8 main_cst_6
  let main_v23 : IVec S1536x8 1 := cmpf .olt main_v21 main_v22
  let main_v24 : FVec F S8 .f32 := Host.absf main_arg10
  let main_cst_7 : FVec F S_ .f32 := constant S_ .f32 0x7F800000#32
  let main_v25 : FVec F S8 .f32 := broadcastInDim S8 ![] bcast_S_S8 main_cst_7
  let main_v26 : IVec S8 1 := cmpf .olt main_v24 main_v25
  (main_v2, main_v5, main_v8, main_v11, main_v14, main_v17, main_v20, main_v23, main_v26)

def fn {F : FTy → Type} [FloatOps F] (main_arg0 : FVec F S512x3x32x32 .f32) (main_arg1 : FVec F S8x384x3x3x3 .f32) (main_arg2 : FVec F S8x384 .f32) (main_arg3 : FVec F S384x3x3x3 .f32) (main_arg4 : FVec F S384 .f32) (main_arg5 : FVec F S384x8 .f32) (main_arg6 : FVec F S8 .f32) (main_arg7 : FVec F S8x1536x100 .f32) (main_arg8 : FVec F S8x100 .f32) (main_arg9 : FVec F S1536x8 .f32) (main_arg10 : FVec F S8 .f32) : IVec S512x3x32x32 1 × IVec S8x384x3x3x3 1 × IVec S8x384 1 × IVec S384x3x3x3 1 × IVec S384 1 × IVec S384x8 1 × IVec S8 1 × IVec S1536x8 1 × IVec S8 1 :=
  let main_v0 : FVec F S512x3x32x32 .f32 := Host.absf main_arg0
  let main_cst : FVec F S_ .f32 := constant S_ .f32 0x7F800000#32
  let main_v1 : FVec F S512x3x32x32 .f32 := broadcastInDim S512x3x32x32 ![] bcast_S_S512x3x32x32 main_cst
  let main_v2 : IVec S512x3x32x32 1 := cmpf .olt main_v0 main_v1
  let main_v3 : FVec F S8x384x3x3x3 .f32 := Host.absf main_arg1
  let main_cst_0 : FVec F S_ .f32 := constant S_ .f32 0x7F800000#32
  let main_v4 : FVec F S8x384x3x3x3 .f32 := broadcastInDim S8x384x3x3x3 ![] bcast_S_S8x384x3x3x3 main_cst_0
  let main_v5 : IVec S8x384x3x3x3 1 := cmpf .olt main_v3 main_v4
  let main_v6 : FVec F S8x384 .f32 := Host.absf main_arg2
  let main_cst_1 : FVec F S_ .f32 := constant S_ .f32 0x7F800000#32
  let main_v7 : FVec F S8x384 .f32 := broadcastInDim S8x384 ![] bcast_S_S8x384 main_cst_1
  let main_v8 : IVec S8x384 1 := cmpf .olt main_v6 main_v7
  let main_v9 : FVec F S384x3x3x3 .f32 := Host.absf main_arg3
  let main_cst_2 : FVec F S_ .f32 := constant S_ .f32 0x7F800000#32
  let main_v10 : FVec F S384x3x3x3 .f32 := broadcastInDim S384x3x3x3 ![] bcast_S_S384x3x3x3 main_cst_2
  let main_v11 : IVec S384x3x3x3 1 := cmpf .olt main_v9 main_v10
  let main_v12 : FVec F S384 .f32 := Host.absf main_arg4
  let main_cst_3 : FVec F S_ .f32 := constant S_ .f32 0x7F800000#32
  let main_v13 : FVec F S384 .f32 := broadcastInDim S384 ![] bcast_S_S384 main_cst_3
  let main_v14 : IVec S384 1 := cmpf .olt main_v12 main_v13
  let main_v15 : FVec F S384x8 .f32 := Host.absf main_arg5
  let main_cst_4 : FVec F S_ .f32 := constant S_ .f32 0x7F800000#32
  let main_v16 : FVec F S384x8 .f32 := broadcastInDim S384x8 ![] bcast_S_S384x8 main_cst_4
  let main_v17 : IVec S384x8 1 := cmpf .olt main_v15 main_v16
  fn_part1 (F := F) main_arg6 main_arg9 main_arg10 main_v2 main_v5 main_v8 main_v11 main_v14 main_v17
-- ==== Kernel.lean ====
abbrev S512x3x32x32 : Shape := ⟨4, ![512, 3, 32, 32]⟩
abbrev S8x384x3x3x3 : Shape := ⟨5, ![8, 384, 3, 3, 3]⟩
abbrev S8x384 : Shape := ⟨2, ![8, 384]⟩
abbrev S384x3x3x3 : Shape := ⟨4, ![384, 3, 3, 3]⟩
abbrev S384 : Shape := ⟨1, ![384]⟩
abbrev S384x8 : Shape := ⟨2, ![384, 8]⟩
abbrev S8 : Shape := ⟨1, ![8]⟩
abbrev S8x1536x100 : Shape := ⟨3, ![8, 1536, 100]⟩
abbrev S8x100 : Shape := ⟨2, ![8, 100]⟩
abbrev S1536x8 : Shape := ⟨2, ![1536, 8]⟩
abbrev S_ : Shape := ⟨0, ![]⟩
abbrev S512x1x32x32 : Shape := ⟨4, ![512, 1, 32, 32]⟩
abbrev S512x4x32x32 : Shape := ⟨4, ![512, 4, 32, 32]⟩
abbrev S512x4x34x34 : Shape := ⟨4, ![512, 4, 34, 34]⟩
abbrev S512x4x18x18 : Shape := ⟨4, ![512, 4, 18, 18]⟩
abbrev S512x4x1x18x18 : Shape := ⟨5, ![512, 4, 1, 18, 18]⟩
abbrev S512x4x4x18x18 : Shape := ⟨5, ![512, 4, 4, 18, 18]⟩
abbrev S512x1x4x16x16 : Shape := ⟨5, ![512, 1, 4, 16, 16]⟩
abbrev S512x4x16x16 : Shape := ⟨4, ![512, 4, 16, 16]⟩
abbrev S1x512x4x16x16 : Shape := ⟨5, ![1, 512, 4, 16, 16]⟩
abbrev S16x512x4x16x16 : Shape := ⟨5, ![16, 512, 4, 16, 16]⟩
abbrev S12x512x4x16x16 : Shape := ⟨5, ![12, 512, 4, 16, 16]⟩
abbrev S28x512x4x16x16 : Shape := ⟨5, ![28, 512, 4, 16, 16]⟩
abbrev S28x524288 : Shape := ⟨2, ![28, 524288]⟩
abbrev S384x27 : Shape := ⟨2, ![384, 27]⟩
abbrev S3072x27 : Shape := ⟨2, ![3072, 27]⟩
abbrev S3456x27 : Shape := ⟨2, ![3456, 27]⟩
abbrev S27x3456 : Shape := ⟨2, ![27, 3456]⟩
abbrev S3072 : Shape := ⟨1, ![3072]⟩
abbrev S3456 : Shape := ⟨1, ![3456]⟩
abbrev S1x3456 : Shape := ⟨2, ![1, 3456]⟩
abbrev S28x3456 : Shape := ⟨2, ![28, 3456]⟩
abbrev S2048x3456 : Shape := ⟨2, ![2048, 3456]⟩
abbrev S28x8192 : Shape := ⟨2, ![28, 8192]⟩
abbrev S28x1152 : Shape := ⟨2, ![28, 1152]⟩
abbrev S32x1152 : Shape := ⟨2, ![32, 1152]⟩
abbrev S8192x1152 : Shape := ⟨2, ![8192, 1152]⟩
abbrev S32x256x1152 : Shape := ⟨3, ![32, 256, 1152]⟩
abbrev S384x4x8 : Shape := ⟨3, ![384, 4, 8]⟩
abbrev S4x384x8 : Shape := ⟨3, ![4, 384, 8]⟩
abbrev S8x384x4x100 : Shape := ⟨4, ![8, 384, 4, 100]⟩
abbrev S8x4x384x100 : Shape := ⟨4, ![8, 4, 384, 100]⟩
abbrev S1536x8x100 : Shape := ⟨3, ![1536, 8, 100]⟩
abbrev S1536x800 : Shape := ⟨2, ![1536, 800]⟩
abbrev S512 : Shape := ⟨1, ![512]⟩
abbrev S128 : Shape := ⟨1, ![128]⟩
abbrev S128x1 : Shape := ⟨2, ![128, 1]⟩
abbrev S1x512 : Shape := ⟨2, ![1, 512]⟩
abbrev S128x512 : Shape := ⟨2, ![128, 512]⟩
abbrev S512x1 : Shape := ⟨2, ![512, 1]⟩
abbrev S512x512 : Shape := ⟨2, ![512, 512]⟩
abbrev S1x8 : Shape := ⟨2, ![1, 8]⟩
abbrev S512x100 : Shape := ⟨2, ![512, 100]⟩
abbrev S512x3456 : Shape := ⟨2, ![512, 3456]⟩
abbrev S128x100 : Shape := ⟨2, ![128, 100]⟩
abbrev S512x384 : Shape := ⟨2, ![512, 384]⟩
abbrev S128x384 : Shape := ⟨2, ![128, 384]⟩
abbrev S128x8 : Shape := ⟨2, ![128, 8]⟩
abbrev S512x8 : Shape := ⟨2, ![512, 8]⟩
abbrev S128x1536 : Shape := ⟨2, ![128, 1536]⟩
abbrev S128x800 : Shape := ⟨2, ![128, 800]⟩

abbrev nBuf : Space → Nat
  | .hbm => 213
  | .vmem => 18
  | .smem => 0
  | _ => 0

abbrev hbmTy0_0 (i : Nat) : BufTy := match i % 128 with
  | 0 => ⟨S512x3x32x32, .f32⟩
  | 1 => ⟨S8x384x3x3x3, .f32⟩
  | 2 => ⟨S8x384, .f32⟩
  | 3 => ⟨S384x3x3x3, .f32⟩
  | 4 => ⟨S384, .f32⟩
  | 5 => ⟨S384x8, .f32⟩
  | 6 => ⟨S8, .f32⟩
  | 7 => ⟨S8x1536x100, .f32⟩
  | 8 => ⟨S8x100, .f32⟩
  | 9 => ⟨S1536x8, .f32⟩
  | 10 => ⟨S8, .f32⟩
  | 11 => ⟨S_, .f32⟩
  | 12 => ⟨S512x1x32x32, .f32⟩
  | 13 => ⟨S512x4x32x32, .f32⟩
  | 14 => ⟨S_, .i32⟩
  | 15 => ⟨S_, .f32⟩
  | 16 => ⟨S512x4x34x34, .f32⟩
  | 17 => ⟨S512x4x34x34, .bf16⟩
  | 18 => ⟨S512x4x18x18, .bf16⟩
  | 19 => ⟨S512x4x18x18, .bf16⟩
  | 20 => ⟨S512x4x18x18, .bf16⟩
  | 21 => ⟨S512x4x18x18, .bf16⟩
  | 22 => ⟨S512x4x1x18x18, .bf16⟩
  | 23 => ⟨S512x4x1x18x18, .bf16⟩
  | 24 => ⟨S512x4x1x18x18, .bf16⟩
  | 25 => ⟨S512x4x1x18x18, .bf16⟩
  | 26 => ⟨S512x4x4x18x18, .bf16⟩
  | 27 => ⟨S512x1x4x16x16, .bf16⟩
  | 28 => ⟨S512x4x16x16, .bf16⟩
  | 29 => ⟨S512x1x4x16x16, .bf16⟩
  | 30 => ⟨S512x4x16x16, .bf16⟩
  | 31 => ⟨S512x1x4x16x16, .bf16⟩
  | 32 => ⟨S512x4x16x16, .bf16⟩
  | 33 => ⟨S512x1x4x16x16, .bf16⟩
  | 34 => ⟨S512x4x16x16, .bf16⟩
  | 35 => ⟨S512x1x4x16x16, .bf16⟩
  | 36 => ⟨S512x4x16x16, .bf16⟩
  | 37 => ⟨S512x1x4x16x16, .bf16⟩
  | 38 => ⟨S512x4x16x16, .bf16⟩
  | 39 => ⟨S512x1x4x16x16, .bf16⟩
  | 40 => ⟨S512x4x16x16, .bf16⟩
  | 41 => ⟨S512x1x4x16x16, .bf16⟩
  | 42 => ⟨S512x4x16x16, .bf16⟩
  | 43 => ⟨S512x1x4x16x16, .bf16⟩
  | 44 => ⟨S512x4x16x16, .bf16⟩
  | 45 => ⟨S512x1x4x16x16, .bf16⟩
  | 46 => ⟨S512x4x16x16, .bf16⟩
  | 47 => ⟨S512x1x4x16x16, .bf16⟩
  | 48 => ⟨S512x4x16x16, .bf16⟩
  | 49 => ⟨S512x1x4x16x16, .bf16⟩
  | 50 => ⟨S512x4x16x16, .bf16⟩
  | 51 => ⟨S512x1x4x16x16, .bf16⟩
  | 52 => ⟨S512x4x16x16, .bf16⟩
  | 53 => ⟨S512x1x4x16x16, .bf16⟩
  | 54 => ⟨S512x4x16x16, .bf16⟩
  | 55 => ⟨S512x1x4x16x16, .bf16⟩
  | 56 => ⟨S512x4x16x16, .bf16⟩
  | 57 => ⟨S512x1x4x16x16, .bf16⟩
  | 58 => ⟨S512x4x16x16, .bf16⟩
  | 59 => ⟨S512x1x4x16x16, .bf16⟩
  | 60 => ⟨S512x4x16x16, .bf16⟩
  | 61 => ⟨S512x1x4x16x16, .bf16⟩
  | 62 => ⟨S512x4x16x16, .bf16⟩
  | 63 => ⟨S512x1x4x16x16, .bf16⟩
  | 64 => ⟨S512x4x16x16, .bf16⟩
  | 65 => ⟨S512x1x4x16x16, .bf16⟩
  | 66 => ⟨S512x4x16x16, .bf16⟩
  | 67 => ⟨S512x1x4x16x16, .bf16⟩
  | 68 => ⟨S512x4x16x16, .bf16⟩
  | 69 => ⟨S512x1x4x16x16, .bf16⟩
  | 70 => ⟨S512x4x16x16, .bf16⟩
  | 71 => ⟨S512x1x4x16x16, .bf16⟩
  | 72 => ⟨S512x4x16x16, .bf16⟩
  | 73 => ⟨S512x1x4x16x16, .bf16⟩
  | 74 => ⟨S512x4x16x16, .bf16⟩
  | 75 => ⟨S512x1x4x16x16, .bf16⟩
  | 76 => ⟨S512x4x16x16, .bf16⟩
  | 77 => ⟨S512x1x4x16x16, .bf16⟩
  | 78 => ⟨S512x4x16x16, .bf16⟩
  | 79 => ⟨S512x1x4x16x16, .bf16⟩
  | 80 => ⟨S512x4x16x16, .bf16⟩
  | 81 => ⟨S512x1x4x16x16, .bf16⟩
  | 82 => ⟨S512x4x16x16, .bf16⟩
  | 83 => ⟨S1x512x4x16x16, .bf16⟩
  | 84 => ⟨S1x512x4x16x16, .bf16⟩
  | 85 => ⟨S1x512x4x16x16, .bf16⟩
  | 86 => ⟨S1x512x4x16x16, .bf16⟩
  | 87 => ⟨S1x512x4x16x16, .bf16⟩
  | 88 => ⟨S1x512x4x16x16, .bf16⟩
  | 89 => ⟨S1x512x4x16x16, .bf16⟩
  | 90 => ⟨S1x512x4x16x16, .bf16⟩
  | 91 => ⟨S1x512x4x16x16, .bf16⟩
  | 92 => ⟨S1x512x4x16x16, .bf16⟩
  | 93 => ⟨S1x512x4x16x16, .bf16⟩
  | 94 => ⟨S1x512x4x16x16, .bf16⟩
  | 95 => ⟨S1x512x4x16x16, .bf16⟩
  | 96 => ⟨S1x512x4x16x16, .bf16⟩
  | 97 => ⟨S1x512x4x16x16, .bf16⟩
  | 98 => ⟨S1x512x4x16x16, .bf16⟩
  | 99 => ⟨S1x512x4x16x16, .bf16⟩
  | 100 => ⟨S1x512x4x16x16, .bf16⟩
  | 101 => ⟨S1x512x4x16x16, .bf16⟩
  | 102 => ⟨S1x512x4x16x16, .bf16⟩
  | 103 => ⟨S1x512x4x16x16, .bf16⟩
  | 104 => ⟨S1x512x4x16x16, .bf16⟩
  | 105 => ⟨S1x512x4x16x16, .bf16⟩
  | 106 => ⟨S1x512x4x16x16, .bf16⟩
  | 107 => ⟨S1x512x4x16x16, .bf16⟩
  | 108 => ⟨S1x512x4x16x16, .bf16⟩
  | 109 => ⟨S1x512x4x16x16, .bf16⟩
  | 110 => ⟨S1x512x4x16x16, .bf16⟩
  | 111 => ⟨S16x512x4x16x16, .bf16⟩
  | 112 => ⟨S12x512x4x16x16, .bf16⟩
  | 113 => ⟨S28x512x4x16x16, .bf16⟩
  | 114 => ⟨S28x524288, .bf16⟩
  | 115 => ⟨S384x27, .f32⟩
  | 116 => ⟨S3072x27, .f32⟩
  | 117 => ⟨S3456x27, .f32⟩
  | 118 => ⟨S27x3456, .f32⟩
  | 119 => ⟨S3072, .f32⟩
  | 120 => ⟨S3456, .f32⟩
  | 121 => ⟨S1x3456, .f32⟩
  | 122 => ⟨S28x3456, .f32⟩
  | 123 => ⟨S28x3456, .bf16⟩
  | 124 => ⟨S2048x3456, .f32⟩
  | 125 => ⟨S384x4x8, .f32⟩
  | 126 => ⟨S4x384x8, .f32⟩
  | 127 => ⟨S1536x8, .f32⟩
  | _ => ⟨S512x3x32x32, .f32⟩

abbrev hbmTy0_1 (i : Nat) : BufTy := match i % 128 with
  | 0 => ⟨S8x384x4x100, .f32⟩
  | 1 => ⟨S8x4x384x100, .f32⟩
  | 2 => ⟨S8x1536x100, .f32⟩
  | 3 => ⟨S1536x8x100, .f32⟩
  | 4 => ⟨S1536x800, .f32⟩
  | 5 => ⟨S512, .i32⟩
  | 6 => ⟨S128, .i32⟩
  | 7 => ⟨S128x1, .i32⟩
  | 8 => ⟨S1x512, .i32⟩
  | 9 => ⟨S_, .i32⟩
  | 10 => ⟨S_, .i32⟩
  | 11 => ⟨S1x512, .i32⟩
  | 12 => ⟨S1x512, .i32⟩
  | 13 => ⟨S1x512, .i32⟩
  | 14 => ⟨S_, .i32⟩
  | 15 => ⟨S1x512, .i32⟩
  | 16 => ⟨S1x512, .i1⟩
  | 17 => ⟨S1x512, .i32⟩
  | 18 => ⟨S1x512, .i32⟩
  | 19 => ⟨S_, .i32⟩
  | 20 => ⟨S1x512, .i32⟩
  | 21 => ⟨S1x512, .i1⟩
  | 22 => ⟨S1x512, .i1⟩
  | 23 => ⟨S_, .i32⟩
  | 24 => ⟨S1x512, .i32⟩
  | 25 => ⟨S1x512, .i32⟩
  | 26 => ⟨S1x512, .i32⟩
  | 27 => ⟨S128x512, .i32⟩
  | 28 => ⟨S128x512, .i32⟩
  | 29 => ⟨S128x512, .i1⟩
  | 30 => ⟨S128x512, .f32⟩
  | 31 => ⟨S1x512, .i32⟩
  | 32 => ⟨S512x1, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S512x1, .i32⟩
  | 40 => ⟨S512x1, .i32⟩
  | 41 => ⟨S_, .i32⟩
  | 42 => ⟨S512x1, .i32⟩
  | 43 => ⟨S512x1, .i1⟩
  | 44 => ⟨S_, .i32⟩
  | 45 => ⟨S512x1, .i32⟩
  | 46 => ⟨S512x1, .i1⟩
  | 47 => ⟨S_, .i32⟩
  | 48 => ⟨S_, .i1⟩
  | 49 => ⟨S512x1, .i1⟩
  | 50 => ⟨S512x1, .i1⟩
  | 51 => ⟨S512x1, .i1⟩
  | 52 => ⟨S512x1, .i32⟩
  | 53 => ⟨S512x1, .i32⟩
  | 54 => ⟨S512x1, .i32⟩
  | 55 => ⟨S_, .i32⟩
  | 56 => ⟨S512x1, .i32⟩
  | 57 => ⟨S512x1, .i32⟩
  | 58 => ⟨S512x1, .i32⟩
  | 59 => ⟨S_, .i32⟩
  | 60 => ⟨S_, .i32⟩
  | 61 => ⟨S512x1, .i32⟩
  | 62 => ⟨S512x1, .i32⟩
  | 63 => ⟨S512x1, .i32⟩
  | 64 => ⟨S_, .i32⟩
  | 65 => ⟨S512x1, .i32⟩
  | 66 => ⟨S512x1, .i1⟩
  | 67 => ⟨S512x1, .i32⟩
  | 68 => ⟨S512x1, .i32⟩
  | 69 => ⟨S_, .i32⟩
  | 70 => ⟨S512x1, .i32⟩
  | 71 => ⟨S512x1, .i1⟩
  | 72 => ⟨S512x1, .i1⟩
  | 73 => ⟨S_, .i32⟩
  | 74 => ⟨S512x1, .i32⟩
  | 75 => ⟨S512x1, .i32⟩
  | 76 => ⟨S512x1, .i32⟩
  | 77 => ⟨S512x1, .i32⟩
  | 78 => ⟨S512x512, .i32⟩
  | 79 => ⟨S512x512, .i32⟩
  | 80 => ⟨S512x512, .i1⟩
  | 81 => ⟨S512x512, .f32⟩
  | 82 => ⟨S1x8, .f32⟩
  | 83 => ⟨S1x8, .f32⟩
  | 84 => ⟨S512x100, .f32⟩
  | _ => ⟨S512x3x32x32, .f32⟩

abbrev hbmTy (i : Nat) : BufTy := match i / 128 with
  | 0 => hbmTy0_0 i
  | 1 => hbmTy0_1 i
  | _ => ⟨S512x3x32x32, .f32⟩

abbrev bufTy : (tb : Table) → Fin (tcTables nBuf tb) → BufTy
  | .hbm, ⟨i, _⟩ => hbmTy i
  | .local _ .vmem, ⟨0, _⟩ => ⟨S28x8192, .bf16⟩
  | .local _ .vmem, ⟨1, _⟩ => ⟨S28x8192, .bf16⟩
  | .local _ .vmem, ⟨2, _⟩ => ⟨S28x1152, .bf16⟩
  | .local _ .vmem, ⟨3, _⟩ => ⟨S28x1152, .bf16⟩
  | .local _ .vmem, ⟨4, _⟩ => ⟨S32x1152, .f32⟩
  | .local _ .vmem, ⟨5, _⟩ => ⟨S32x1152, .f32⟩
  | .local _ .vmem, ⟨6, _⟩ => ⟨S512x3456, .f32⟩
  | .local _ .vmem, ⟨7, _⟩ => ⟨S512x3456, .f32⟩
  | .local _ .vmem, ⟨8, _⟩ => ⟨S128x512, .f32⟩
  | .local _ .vmem, ⟨9, _⟩ => ⟨S512x512, .f32⟩
  | .local _ .vmem, ⟨10, _⟩ => ⟨S384x8, .f32⟩
  | .local _ .vmem, ⟨11, _⟩ => ⟨S1x8, .f32⟩
  | .local _ .vmem, ⟨12, _⟩ => ⟨S1536x8, .f32⟩
  | .local _ .vmem, ⟨13, _⟩ => ⟨S1x8, .f32⟩
  | .local _ .vmem, ⟨14, _⟩ => ⟨S1536x800, .f32⟩
  | .local _ .vmem, ⟨15, _⟩ => ⟨S8x100, .f32⟩
  | .local _ .vmem, ⟨16, _⟩ => ⟨S128x100, .f32⟩
  | .local _ .vmem, ⟨17, _⟩ => ⟨S128x100, .f32⟩
  | _, _ => ⟨S512x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_c_0 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_v6 : Ref sig .tc := ⟨.hbm, 144, rfl⟩
abbrev main_call1_v7 : Ref sig .tc := ⟨.hbm, 145, rfl⟩
abbrev main_call1_v8 : Ref sig .tc := ⟨.hbm, 146, rfl⟩
abbrev main_call1_c : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_c_0 : Ref sig .tc := ⟨.hbm, 151, rfl⟩
abbrev main_call1_v12 : Ref sig .tc := ⟨.hbm, 152, rfl⟩
abbrev main_call1_v13 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_c_1 : Ref sig .tc := ⟨.hbm, 161, rfl⟩
abbrev main_call2_v0 : Ref sig .tc := ⟨.hbm, 162, rfl⟩
abbrev main_call2_c : Ref sig .tc := ⟨.hbm, 163, rfl⟩
abbrev main_call2_v1 : Ref sig .tc := ⟨.hbm, 164, rfl⟩
abbrev main_call2_c_0 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_c_1 : Ref sig .tc := ⟨.hbm, 169, rfl⟩
abbrev main_call2_v5 : Ref sig .tc := ⟨.hbm, 170, rfl⟩
abbrev main_call2_v6 : Ref sig .tc := ⟨.hbm, 171, rfl⟩
abbrev main_call2_c_2 : Ref sig .tc := ⟨.hbm, 172, rfl⟩
abbrev main_call2_v7 : Ref sig .tc := ⟨.hbm, 173, rfl⟩
abbrev main_call2_v8 : Ref sig .tc := ⟨.hbm, 174, rfl⟩
abbrev main_call2_c_3 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_v12 : Ref sig .tc := ⟨.hbm, 179, rfl⟩
abbrev main_call2_v13 : Ref sig .tc := ⟨.hbm, 180, rfl⟩
abbrev main_call2_v14 : Ref sig .tc := ⟨.hbm, 181, rfl⟩
abbrev main_v130 : Ref sig .tc := ⟨.hbm, 182, rfl⟩
abbrev main_c_2 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_3 : Ref sig .tc := ⟨.hbm, 187, rfl⟩
abbrev main_call3_v0 : Ref sig .tc := ⟨.hbm, 188, rfl⟩
abbrev main_call3_v1 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_call3_v5 : Ref sig .tc := ⟨.hbm, 193, rfl⟩
abbrev main_call3_v6 : Ref sig .tc := ⟨.hbm, 194, rfl⟩
abbrev main_call3_v7 : Ref sig .tc := ⟨.hbm, 195, rfl⟩
abbrev main_call3_v8 : Ref sig .tc := ⟨.hbm, 196, rfl⟩
abbrev main_call3_c : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_c_0 : Ref sig .tc := ⟨.hbm, 201, rfl⟩
abbrev main_call3_v12 : Ref sig .tc := ⟨.hbm, 202, rfl⟩
abbrev main_call3_v13 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S28x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S28x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3456 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1536x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1536x800 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x100 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S512x3x32x32 : Shape := ⟨4, ![512, 3, 32, 32]⟩
abbrev S8x384x3x3x3 : Shape := ⟨5, ![8, 384, 3, 3, 3]⟩
abbrev S8x384 : Shape := ⟨2, ![8, 384]⟩
abbrev S384x3x3x3 : Shape := ⟨4, ![384, 3, 3, 3]⟩
abbrev S384 : Shape := ⟨1, ![384]⟩
abbrev S384x8 : Shape := ⟨2, ![384, 8]⟩
abbrev S8 : Shape := ⟨1, ![8]⟩
abbrev S8x1536x100 : Shape := ⟨3, ![8, 1536, 100]⟩
abbrev S8x100 : Shape := ⟨2, ![8, 100]⟩
abbrev S1536x8 : Shape := ⟨2, ![1536, 8]⟩
abbrev S_ : Shape := ⟨0, ![]⟩
abbrev S512x3x34x34 : Shape := ⟨4, ![512, 3, 34, 34]⟩
abbrev S512x384x32x32 : Shape := ⟨4, ![512, 384, 32, 32]⟩
abbrev S384x3x1x1 : Shape := ⟨4, ![384, 3, 1, 1]⟩
abbrev S384x3 : Shape := ⟨2, ![384, 3]⟩
abbrev S384x512x32x32 : Shape := ⟨4, ![384, 512, 32, 32]⟩
abbrev S1x384x1x1 : Shape := ⟨4, ![1, 384, 1, 1]⟩
abbrev S512x384 : Shape := ⟨2, ![512, 384]⟩
abbrev S512x8 : Shape := ⟨2, ![512, 8]⟩
abbrev S1x8 : Shape := ⟨2, ![1, 8]⟩
abbrev S512 : Shape := ⟨1, ![512]⟩
abbrev S512x1 : Shape := ⟨2, ![512, 1]⟩
abbrev S8x384x3x1x1 : Shape := ⟨5, ![8, 384, 3, 1, 1]⟩
abbrev S8x384x3 : Shape := ⟨3, ![8, 384, 3]⟩
abbrev S8x384x512x32x32 : Shape := ⟨5, ![8, 384, 512, 32, 32]⟩
abbrev S8x512x384x32x32 : Shape := ⟨5, ![8, 512, 384, 32, 32]⟩
abbrev S1x512x384x32x32 : Shape := ⟨5, ![1, 512, 384, 32, 32]⟩
abbrev S8x1x384x1x1 : Shape := ⟨5, ![8, 1, 384, 1, 1]⟩
abbrev S8x512 : Shape := ⟨2, ![8, 512]⟩
abbrev S8x512x1x1x1 : Shape := ⟨5, ![8, 512, 1, 1, 1]⟩
abbrev S512x384x2x16x2x16 : Shape := ⟨6, ![512, 384, 2, 16, 2, 16]⟩
abbrev S512x384x2x2 : Shape := ⟨4, ![512, 384, 2, 2]⟩
abbrev S512x1536 : Shape := ⟨2, ![512, 1536]⟩
abbrev S512x8x100 : Shape := ⟨3, ![512, 8, 100]⟩
abbrev S8x1x100 : Shape := ⟨3, ![8, 1, 100]⟩
abbrev S8x512x100 : Shape := ⟨3, ![8, 512, 100]⟩
abbrev S8x512x1 : Shape := ⟨3, ![8, 512, 1]⟩
abbrev S512x100 : Shape := ⟨2, ![512, 100]⟩

abbrev nBuf : Space → Nat
  | .hbm => 208
  | .vmem => 0
  | .smem => 0
  | _ => 0

abbrev hbmTy0_0 (i : Nat) : BufTy := match i % 128 with
  | 0 => ⟨S512x3x32x32, .f32⟩
  | 1 => ⟨S8x384x3x3x3, .f32⟩
  | 2 => ⟨S8x384, .f32⟩
  | 3 => ⟨S384x3x3x3, .f32⟩
  | 4 => ⟨S384, .f32⟩
  | 5 => ⟨S384x8, .f32⟩
  | 6 => ⟨S8, .f32⟩
  | 7 => ⟨S8x1536x100, .f32⟩
  | 8 => ⟨S8x100, .f32⟩
  | 9 => ⟨S1536x8, .f32⟩
  | 10 => ⟨S8, .f32⟩
  | 11 => ⟨S_, .i32⟩
  | 12 => ⟨S_, .f32⟩
  | 13 => ⟨S512x3x34x34, .f32⟩
  | 14 => ⟨S_, .f32⟩
  | 15 => ⟨S512x384x32x32, .f32⟩
  | 16 => ⟨S512x3x32x32, .f32⟩
  | 17 => ⟨S384x3x1x1, .f32⟩
  | 18 => ⟨S384x3, .f32⟩
  | 19 => ⟨S384x512x32x32, .f32⟩
  | 20 => ⟨S512x384x32x32, .f32⟩
  | 21 => ⟨S512x384x32x32, .f32⟩
  | 22 => ⟨S512x3x32x32, .f32⟩
  | 23 => ⟨S384x3x1x1, .f32⟩
  | 24 => ⟨S384x3, .f32⟩
  | 25 => ⟨S384x512x32x32, .f32⟩
  | 26 => ⟨S512x384x32x32, .f32⟩
  | 27 => ⟨S512x384x32x32, .f32⟩
  | 28 => ⟨S512x3x32x32, .f32⟩
  | 29 => ⟨S384x3x1x1, .f32⟩
  | 30 => ⟨S384x3, .f32⟩
  | 31 => ⟨S384x512x32x32, .f32⟩
  | 32 => ⟨S512x384x32x32, .f32⟩
  | 33 => ⟨S512x384x32x32, .f32⟩
  | 34 => ⟨S512x3x32x32, .f32⟩
  | 35 => ⟨S384x3x1x1, .f32⟩
  | 36 => ⟨S384x3, .f32⟩
  | 37 => ⟨S384x512x32x32, .f32⟩
  | 38 => ⟨S512x384x32x32, .f32⟩
  | 39 => ⟨S512x384x32x32, .f32⟩
  | 40 => ⟨S512x3x32x32, .f32⟩
  | 41 => ⟨S384x3x1x1, .f32⟩
  | 42 => ⟨S384x3, .f32⟩
  | 43 => ⟨S384x512x32x32, .f32⟩
  | 44 => ⟨S512x384x32x32, .f32⟩
  | 45 => ⟨S512x384x32x32, .f32⟩
  | 46 => ⟨S512x3x32x32, .f32⟩
  | 47 => ⟨S384x3x1x1, .f32⟩
  | 48 => ⟨S384x3, .f32⟩
  | 49 => ⟨S384x512x32x32, .f32⟩
  | 50 => ⟨S512x384x32x32, .f32⟩
  | 51 => ⟨S512x384x32x32, .f32⟩
  | 52 => ⟨S512x3x32x32, .f32⟩
  | 53 => ⟨S384x3x1x1, .f32⟩
  | 54 => ⟨S384x3, .f32⟩
  | 55 => ⟨S384x512x32x32, .f32⟩
  | 56 => ⟨S512x384x32x32, .f32⟩
  | 57 => ⟨S512x384x32x32, .f32⟩
  | 58 => ⟨S512x3x32x32, .f32⟩
  | 59 => ⟨S384x3x1x1, .f32⟩
  | 60 => ⟨S384x3, .f32⟩
  | 61 => ⟨S384x512x32x32, .f32⟩
  | 62 => ⟨S512x384x32x32, .f32⟩
  | 63 => ⟨S512x384x32x32, .f32⟩
  | 64 => ⟨S512x3x32x32, .f32⟩
  | 65 => ⟨S384x3x1x1, .f32⟩
  | 66 => ⟨S384x3, .f32⟩
  | 67 => ⟨S384x512x32x32, .f32⟩
  | 68 => ⟨S512x384x32x32, .f32⟩
  | 69 => ⟨S512x384x32x32, .f32⟩
  | 70 => ⟨S1x384x1x1, .f32⟩
  | 71 => ⟨S512x384x32x32, .f32⟩
  | 72 => ⟨S512x384x32x32, .f32⟩
  | 73 => ⟨S_, .f32⟩
  | 74 => ⟨S512x384x32x32, .f32⟩
  | 75 => ⟨S512x384x32x32, .f32⟩
  | 76 => ⟨S_, .f32⟩
  | 77 => ⟨S512x384, .f32⟩
  | 78 => ⟨S_, .f32⟩
  | 79 => ⟨S512x384, .f32⟩
  | 80 => ⟨S512x384, .f32⟩
  | 81 => ⟨S512x8, .f32⟩
  | 82 => ⟨S1x8, .f32⟩
  | 83 => ⟨S512x8, .f32⟩
  | 84 => ⟨S512x8, .f32⟩
  | 85 => ⟨S_, .f32⟩
  | 86 => ⟨S512, .f32⟩
  | 87 => ⟨S_, .f32⟩
  | 88 => ⟨S512, .f32⟩
  | 89 => ⟨S512, .f32⟩
  | 90 => ⟨S512x1, .f32⟩
  | 91 => ⟨S512x8, .f32⟩
  | 92 => ⟨S512x8, .f32⟩
  | 93 => ⟨S512x8, .f32⟩
  | 94 => ⟨S_, .f32⟩
  | 95 => ⟨S512, .f32⟩
  | 96 => ⟨S512x1, .f32⟩
  | 97 => ⟨S512x8, .f32⟩
  | 98 => ⟨S512x8, .f32⟩
  | 99 => ⟨S_, .i32⟩
  | 100 => ⟨S_, .f32⟩
  | 101 => ⟨S512x3x34x34, .f32⟩
  | 102 => ⟨S_, .f32⟩
  | 103 => ⟨S512x384x32x32, .f32⟩
  | 104 => ⟨S512x3x32x32, .f32⟩
  | 105 => ⟨S8x384x3x1x1, .f32⟩
  | 106 => ⟨S8x384x3, .f32⟩
  | 107 => ⟨S8x384x512x32x32, .f32⟩
  | 108 => ⟨S8x512x384x32x32, .f32⟩
  | 109 => ⟨S1x512x384x32x32, .f32⟩
  | 110 => ⟨S8x512x384x32x32, .f32⟩
  | 111 => ⟨S8x512x384x32x32, .f32⟩
  | 112 => ⟨S512x3x32x32, .f32⟩
  | 113 => ⟨S8x384x3x1x1, .f32⟩
  | 114 => ⟨S8x384x3, .f32⟩
  | 115 => ⟨S8x384x512x32x32, .f32⟩
  | 116 => ⟨S8x512x384x32x32, .f32⟩
  | 117 => ⟨S8x512x384x32x32, .f32⟩
  | 118 => ⟨S512x3x32x32, .f32⟩
  | 119 => ⟨S8x384x3x1x1, .f32⟩
  | 120 => ⟨S8x384x3, .f32⟩
  | 121 => ⟨S8x384x512x32x32, .f32⟩
  | 122 => ⟨S8x512x384x32x32, .f32⟩
  | 123 => ⟨S8x512x384x32x32, .f32⟩
  | 124 => ⟨S512x3x32x32, .f32⟩
  | 125 => ⟨S8x384x3x1x1, .f32⟩
  | 126 => ⟨S8x384x3, .f32⟩
  | 127 => ⟨S8x384x512x32x32, .f32⟩
  | _ => ⟨S512x3x32x32, .f32⟩

abbrev hbmTy0_1 (i : Nat) : BufTy := match i % 128 with
  | 0 => ⟨S8x512x384x32x32, .f32⟩
  | 1 => ⟨S8x512x384x32x32, .f32⟩
  | 2 => ⟨S512x3x32x32, .f32⟩
  | 3 => ⟨S8x384x3x1x1, .f32⟩
  | 4 => ⟨S8x384x3, .f32⟩
  | 5 => ⟨S8x384x512x32x32, .f32⟩
  | 6 => ⟨S8x512x384x32x32, .f32⟩
  | 7 => ⟨S8x512x384x32x32, .f32⟩
  | 8 => ⟨S512x3x32x32, .f32⟩
  | 9 => ⟨S8x384x3x1x1, .f32⟩
  | 10 => ⟨S8x384x3, .f32⟩
  | 11 => ⟨S8x384x512x32x32, .f32⟩
  | 12 => ⟨S8x512x384x32x32, .f32⟩
  | 13 => ⟨S8x512x384x32x32, .f32⟩
  | 14 => ⟨S512x3x32x32, .f32⟩
  | 15 => ⟨S8x384x3x1x1, .f32⟩
  | 16 => ⟨S8x384x3, .f32⟩
  | 17 => ⟨S8x384x512x32x32, .f32⟩
  | 18 => ⟨S8x512x384x32x32, .f32⟩
  | 19 => ⟨S8x512x384x32x32, .f32⟩
  | 20 => ⟨S512x3x32x32, .f32⟩
  | 21 => ⟨S8x384x3x1x1, .f32⟩
  | 22 => ⟨S8x384x3, .f32⟩
  | 23 => ⟨S8x384x512x32x32, .f32⟩
  | 24 => ⟨S8x512x384x32x32, .f32⟩
  | 25 => ⟨S8x512x384x32x32, .f32⟩
  | 26 => ⟨S512x3x32x32, .f32⟩
  | 27 => ⟨S8x384x3x1x1, .f32⟩
  | 28 => ⟨S8x384x3, .f32⟩
  | 29 => ⟨S8x384x512x32x32, .f32⟩
  | 30 => ⟨S8x512x384x32x32, .f32⟩
  | 31 => ⟨S8x512x384x32x32, .f32⟩
  | 32 => ⟨S8x1x384x1x1, .f32⟩
  | 33 => ⟨S8x512x384x32x32, .f32⟩
  | 34 => ⟨S8x512x384x32x32, .f32⟩
  | 35 => ⟨S_, .f32⟩
  | 36 => ⟨S8x512x384x32x32, .f32⟩
  | 37 => ⟨S8x512x384x32x32, .f32⟩
  | 38 => ⟨S8x512, .f32⟩
  | 39 => ⟨S8x512x1x1x1, .f32⟩
  | 40 => ⟨S8x512x384x32x32, .f32⟩
  | 41 => ⟨S8x512x384x32x32, .f32⟩
  | 42 => ⟨S_, .f32⟩
  | 43 => ⟨S512x384x32x32, .f32⟩
  | 44 => ⟨S512x384x2x16x2x16, .f32⟩
  | 45 => ⟨S_, .f32⟩
  | 46 => ⟨S512x384x2x2, .f32⟩
  | 47 => ⟨S_, .f32⟩
  | 48 => ⟨S512x384x2x2, .f32⟩
  | 49 => ⟨S512x384x2x2, .f32⟩
  | 50 => ⟨S512x1536, .f32⟩
  | 51 => ⟨S512x8, .f32⟩
  | 52 => ⟨S1x8, .f32⟩
  | 53 => ⟨S512x8, .f32⟩
  | 54 => ⟨S512x8, .f32⟩
  | 55 => ⟨S_, .f32⟩
  | 56 => ⟨S512, .f32⟩
  | 57 => ⟨S_, .f32⟩
  | 58 => ⟨S512, .f32⟩
  | 59 => ⟨S512, .f32⟩
  | 60 => ⟨S512x1, .f32⟩
  | 61 => ⟨S512x8, .f32⟩
  | 62 => ⟨S512x8, .f32⟩
  | 63 => ⟨S512x8, .f32⟩
  | 64 => ⟨S_, .f32⟩
  | 65 => ⟨S512, .f32⟩
  | 66 => ⟨S512x1, .f32⟩
  | 67 => ⟨S512x8, .f32⟩
  | 68 => ⟨S512x8, .f32⟩
  | 69 => ⟨S512x8x100, .f32⟩
  | 70 => ⟨S8x1x100, .f32⟩
  | 71 => ⟨S8x512x100, .f32⟩
  | 72 => ⟨S8x512x100, .f32⟩
  | 73 => ⟨S8x512x100, .f32⟩
  | 74 => ⟨S8x512, .f32⟩
  | 75 => ⟨S8x512x1, .f32⟩
  | 76 => ⟨S8x512x100, .f32⟩
  | 77 => ⟨S8x512x100, .f32⟩
  | 78 => ⟨S_, .f32⟩
  | 79 => ⟨S512x100, .f32⟩
  | _ => ⟨S512x3x32x32, .f32⟩

abbrev hbmTy (i : Nat) : BufTy := match i / 128 with
  | 0 => hbmTy0_0 i
  | 1 => hbmTy0_1 i
  | _ => ⟨S512x3x32x32, .f32⟩

abbrev bufTy : (tb : Table) → Fin (tcTables nBuf tb) → BufTy
  | .hbm, ⟨i, _⟩ => hbmTy i
  | _, _ => ⟨S512x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call1_cst : Ref sig .tc := ⟨.hbm, 73, rfl⟩
abbrev main_call1_v0 : Ref sig .tc := ⟨.hbm, 74, rfl⟩
abbrev main_v59 : Ref sig .tc := ⟨.hbm, 75, rfl⟩
abbrev main_cst_0 : Ref sig .tc := ⟨.hbm, 76, rfl⟩
abbrev main_v60 : Ref sig .tc := ⟨.hbm, 77, rfl⟩
abbrev main_cst_1 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_2 : Ref sig .tc := ⟨.hbm, 85, rfl⟩
abbrev main_v67 : Ref sig .tc := ⟨.hbm, 86, rfl⟩
abbrev main_cst_3 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_4 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_5 : Ref sig .tc := ⟨.hbm, 99, rfl⟩
abbrev main_call2_v0 : Ref sig .tc := ⟨.hbm, 100, rfl⟩
abbrev main_v78 : Ref sig .tc := ⟨.hbm, 101, rfl⟩
abbrev main_cst_6 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_call3_cst : Ref sig .tc := ⟨.hbm, 163, rfl⟩
abbrev main_call3_v0 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_7 : Ref sig .tc := ⟨.hbm, 170, rfl⟩
abbrev main_v144 : Ref sig .tc := ⟨.hbm, 171, rfl⟩
abbrev main_v145 : Ref sig .tc := ⟨.hbm, 172, rfl⟩
abbrev main_cst_8 : Ref sig .tc := ⟨.hbm, 173, rfl⟩
abbrev main_v146 : Ref sig .tc := ⟨.hbm, 174, rfl⟩
abbrev main_cst_9 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_10 : Ref sig .tc := ⟨.hbm, 183, rfl⟩
abbrev main_v154 : Ref sig .tc := ⟨.hbm, 184, rfl⟩
abbrev main_cst_11 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_12 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_13 : Ref sig .tc := ⟨.hbm, 206, rfl⟩
abbrev main_v174 : Ref sig .tc := ⟨.hbm, 207, rfl⟩

abbrev nD : Nat := 1
abbrev τ : Topo := Topo.v7x

variable {F : FTy → Type} [FloatOps F]
-- ==== Proof.Spec.lean ====
/-
  What one sample's result is, written once over plain arrays of extended reals, for the kernel's value and the
  reference's to meet at: the convolution, its quadrant sums, the two gates, the pooled features and the two forms of the
  last mixture. Also the float literals both programs use and the regroupings of finite sums that the proofs share.
-/
module

public import Idealize.ShloMosaic.Lib.Pointwise
public import Idealize.ShloMosaic.Lib.ValueIdx

@[expose] public section

noncomputable section

namespace Cert.Spec

open Idealize.ShloMosaic

/-! ### The literals -/

theorem lit_ninf : Ideal.ofBits .f32 0xFF800000#32 = ⊥ := by simp [Ideal.ofBits, Ideal.ieee]
theorem lit_pinf : Ideal.ofBits .f32 0x7F800000#32 = ⊤ := by simp [Ideal.ofBits, Ideal.ieee]
theorem lit_1024 : Ideal.ofBits .f32 0x44800000#32 = ((1024 : ℝ) : EReal) := by
  simp [Ideal.ofBits, Ideal.ieee]; rw [← EReal.coe_mul]; norm_num
theorem lit_256 : Ideal.ofBits .f32 0x43800000#32 = ((256 : ℝ) : EReal) := by
  simp [Ideal.ofBits, Ideal.ieee]; rw [← EReal.coe_mul]; norm_num
theorem lit_inv1024 : Ideal.ofBits .f32 0x3A800000#32 = ((1 / 1024 : ℝ) : EReal) := by
  simp [Ideal.ofBits, Ideal.ieee]; rw [← EReal.coe_mul]; norm_num
theorem lit_inv256 : Ideal.ofBits .f32 0x3B800000#32 = ((1 / 256 : ℝ) : EReal) := by
  simp [Ideal.ofBits, Ideal.ieee]; rw [← EReal.coe_mul]; norm_num

/-! ### One sample's result -/

/-- The image with a border of zeros one pixel wide, at padded coordinates. -/
def xpad (x : (⟨4, ![512, 3, 32, 32]⟩ : Shape).Idx → EReal) (b : Fin 512) (ci : Fin 3) (y z : ℕ) : EReal :=
  if h : (1 ≤ y ∧ y < 33) ∧ (1 ≤ z ∧ z < 33) then x (ix4 b ci ⟨y - 1, by omega⟩ ⟨z - 1, by omega⟩) else 0

/-- The 3x3 convolution with bias, at an output pixel. -/
def conv (x : (⟨4, ![512, 3, 32, 32]⟩ : Shape).Idx → EReal) (w : Fin 3 → Fin 3 → Fin 3 → EReal) (bias : EReal)
    (b : Fin 512) (y z : ℕ) : EReal :=
  (∑ ci : Fin 3, ∑ dy : Fin 3, ∑ dx : Fin 3, xpad x b ci (y + dy.val) (z + dx.val) * w ci dy dx) + bias

/-- The rectified convolution summed over the 16x16 quadrant `qd` (row-major). -/
def pool (x : (⟨4, ![512, 3, 32, 32]⟩ : Shape).Idx → EReal) (w : Fin 3 → Fin 3 → Fin 3 → EReal) (bias : EReal)
    (b : Fin 512) (qd : Fin 4) : EReal :=
  ∑ p : Fin 256, max (conv x w bias b (16 * (qd.val / 2) + p.val / 16) (16 * (qd.val % 2) + p.val % 16)) 0

/-- The softmax of eight logits, the largest subtracted first. -/
def smax (l : Fin 8 → EReal) (e : Fin 8) : EReal :=
  Ideal.div (Ideal.exp (l e - Finset.univ.fold max (Ideal.ofBits .f32 0xFF800000#32) l))
    (∑ e' : Fin 8, Ideal.exp (l e' - Finset.univ.fold max (Ideal.ofBits .f32 0xFF800000#32) l))

/-- The first gate's logits, from the router's quadrant sums. -/
def logits1 (Qr : Fin 4 → Fin 384 → EReal) (Wrg : (⟨2, ![384, 8]⟩ : Shape).Idx → EReal) (brg : Fin 8 → EReal)
    (e : Fin 8) : EReal :=
  (∑ c : Fin 384, ((∑ qd : Fin 4, Qr qd c) * Ideal.ofBits .f32 0x3A800000#32) * Wrg (ix2 c e)) + brg e

/-- A pooled feature: the gated mixture of the experts' quadrant sums, over the quadrant's size. -/
def feat (g : Fin 8 → EReal) (Qe : Fin 4 → Fin 8 → Fin 384 → EReal) (qd : Fin 4) (c : Fin 384) : EReal :=
  (∑ e : Fin 8, g e * Qe qd e c) * Ideal.ofBits .f32 0x3B800000#32

/-- The second gate's logits. -/
def logits2 (f : Fin 4 → Fin 384 → EReal) (Wfr : (⟨2, ![1536, 8]⟩ : Shape).Idx → EReal) (bfr : Fin 8 → EReal)
    (e : Fin 8) : EReal :=
  (∑ c : Fin 384, ∑ qd : Fin 4, f qd c * Wfr (ix2 ⟨c.val * 4 + qd.val, by omega⟩ e)) + bfr e

/-- A linear expert's output without its bias. -/
def lin (f : Fin 4 → Fin 384 → EReal) (Wf : (⟨3, ![8, 1536, 100]⟩ : Shape).Idx → EReal) (e : Fin 8) (n : Fin 100) : EReal :=
  ∑ c : Fin 384, ∑ qd : Fin 4, f qd c * Wf (ix3 e ⟨c.val * 4 + qd.val, by omega⟩ n)

/-- The last mixture with the biases mixed apart. -/
def mixApart (g : Fin 8 → EReal) (z b : Fin 8 → EReal) : EReal := (∑ e, g e * z e) + ∑ e, g e * b e

/-- The last mixture of the experts' full outputs. -/
def mix (g : Fin 8 → EReal) (z b : Fin 8 → EReal) : EReal := ∑ e, g e * (z e + b e)

/-! ### Regrouping finite sums -/

section Sums
variable {M : Type*} [AddCommMonoid M]

/-- A sum over `m * n` places as rows of `n`. -/
theorem sum_rows (m n k : ℕ) (h : m * n = k) (f : Fin k → M) :
    ∑ i, f i = ∑ a : Fin m, ∑ b : Fin n, f ⟨a.val * n + b.val, by
      subst h; have ha := a.isLt; have hb := b.isLt; nlinarith [Nat.mul_le_mul_right n (Nat.succ_le_of_lt ha)]⟩ := by
  subst h
  rw [← Fintype.sum_prod_type', ← Equiv.sum_comp finProdFinEquiv]
  refine Finset.sum_congr rfl fun p _ => congrArg f (Fin.ext ?_)
  show p.2.val + n * p.1.val = p.1.val * n + p.2.val
  ring

/-- The 1536 features, quadrant by quadrant, summed channel by channel. -/
theorem sum_feat (f : Fin 1536 → M) :
    ∑ k, f k = ∑ c : Fin 384, ∑ qd : Fin 4, f ⟨qd.val * 384 + c.val, by omega⟩ := by
  rw [sum_rows 4 384 1536 rfl, Finset.sum_comm]

/-- Selecting the four rows of one sample out of 512. -/
theorem sum_four (b : Fin 128) (f : Fin 512 → M) :
    (∑ t : Fin 512, if t.val / 4 = b.val then f t else 0) = ∑ qd : Fin 4, f ⟨b.val * 4 + qd.val, by omega⟩ := by
  rw [sum_rows 128 4 512 rfl, Finset.sum_eq_single b]
  · refine Finset.sum_congr rfl fun q _ => if_pos ?_
    show (b.val * 4 + q.val) / 4 = b.val
    omega
  · intro a _ hab
    refine Finset.sum_eq_zero fun q _ => if_neg ?_
    show ¬(a.val * 4 + q.val) / 4 = b.val
    have := Fin.val_ne_of_ne hab
    omega
  · intro h; exact absurd (Finset.mem_univ b) h

/-- Selecting one place out of `n`. -/
theorem sum_one {n : ℕ} (a : Fin n) (p : Fin n → Prop) [DecidablePred p] (hp : ∀ t, p t ↔ t = a) (f : Fin n → M) :
    (∑ t, if p t then f t else 0) = f a := by
  rw [Finset.sum_congr rfl fun t _ => if_congr (hp t) rfl rfl, Finset.sum_ite_eq' Finset.univ a f]
  simp

end Sums

end Cert.Spec

end
-- ==== Proof.Run.lean ====
/-
  The kernel's run, kept whole: at the end every array that outlives its region holds what the fold over the program's
  segments says. The launch is set up as for the frame; here the final state is kept instead of the arguments alone.
-/
module

public import proofs.«01_k».proof.Proof.Gen.KernelIdeal.Frame
public import proofs.«01_k».proof.Proof.Spec

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each unscoped array at the last boundary's contents. -/
theorem run_contents : θ_run defs (onTc (τ := τ) (main (F := Ideal))) ⟨m, fun _ => 0, ρ⟩ (fun r => ∀ c : Dev nD,
    ∀ b ∈ Pipeline.ucRefs τ sig, r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

end Cert.KernelIdeal.Gen

end
-- ==== Proof.Stem.lean ====
/-
  The two arrays the first region reads, at an index: the 28 x 524288 patch matrix (27 taps of the padded image and a row
  of ones, the pixels quadrant by quadrant) and the 28 x 3456 matrix of all the filters over their biases; and that a row
  of the one against a column of the other is the convolution at that pixel.
-/
module

public import proofs.«01_k».proof.Proof.Gen.KernelIdeal.Frame
public import proofs.«01_k».proof.Proof.Spec
public import Idealize.ShloMosaic.Lib.StableHlo.ReadAt

@[expose] public section

set_option maxRecDepth 16384

noncomputable section

namespace Cert.KernelIdeal.Gen

open Idealize.ShloMosaic Idealize.ShloMosaic.TcCoe Cert.Spec

/-- A four-channel padded image read at natural coordinates. -/
def at4 (v : FVec Ideal S512x4x34x34 .f32) (b c y z : ℕ) : EReal :=
  if h : (b < 512 ∧ c < 4) ∧ (y < 34 ∧ z < 34) then v (ix4 ⟨b, h.1.1⟩ ⟨c, h.1.2⟩ ⟨y, h.2.1⟩ ⟨z, h.2.2⟩) else 0

theorem at4_mk (v : FVec Ideal S512x4x34x34 .f32) (b : Fin 512) (c : Fin 4) (y z : Fin 34) :
    v (ix4 b c y z) = at4 v b c y z := by
  unfold at4; rw [dif_pos ⟨⟨b.isLt, c.isLt⟩, y.isLt, z.isLt⟩]

section Reads
variable (V : Valuation τ sig (Elt Ideal))

set_option maxHeartbeats 0 in
/-- Row `k` of the patch matrix: channel `k / 9` of the padded image shifted by the tap; the last row is the fourth
    channel at the middle tap. Column `e` is pixel `(e / 16 % 16, e % 16)` of quadrant `e / 256 % 4` of image `e / 1024`. -/
theorem taps (k : Fin 28) (e : Fin 524288) :
    (StableHlo.after hostOps0_2 V (Proc.devRef .tc main_v100) : FVec Ideal S28x524288 .bf16) (ix2 k e) =
      at4 (V (Proc.devRef .tc main_v2)) (e.val / 1024) (k.val / 9)
        (e.val / 512 % 2 * 16 + e.val / 16 % 16 + if k.val < 27 then k.val / 3 % 3 else 1)
        (e.val / 256 % 2 * 16 + e.val % 16 + if k.val < 27 then k.val % 3 else 1) := by
  have he := e.isLt
  fin_cases k <;> (repeat after_reads_at) <;>
    simp only [at4_mk (V (Proc.devRef .tc main_v2))] <;> split_ifs <;> congr 1 <;> omega

/-- The filter matrix: the router's filters, then the experts', with the biases in the last row. -/
theorem filters (k : Fin 28) (j : Fin 3456) :
    (StableHlo.after hostOps0_2 V (Proc.devRef .tc main_v109) : FVec Ideal S28x3456 .bf16) (ix2 k j) =
      if h : k.val < 27 then
        if h' : j.val < 384 then
          (V (Proc.devRef .tc main_arg3) : FVec Ideal S384x3x3x3 .f32)
            (ix4 ⟨j.val, h'⟩ ⟨k.val / 9, by omega⟩ ⟨k.val / 3 % 3, by omega⟩ ⟨k.val % 3, by omega⟩)
        else
          (V (Proc.devRef .tc main_arg1) : FVec Ideal S8x384x3x3x3 .f32)
            (ix5 ⟨(j.val - 384) / 384, by omega⟩ ⟨(j.val - 384) % 384, by omega⟩
              ⟨k.val / 9, by omega⟩ ⟨k.val / 3 % 3, by omega⟩ ⟨k.val % 3, by omega⟩)
      else
        if h' : j.val < 384 then (V (Proc.devRef .tc main_arg4) : FVec Ideal S384 .f32) (ix1 ⟨j.val, h'⟩)
        else
          (V (Proc.devRef .tc main_arg2) : FVec Ideal S8x384 .f32)
            (ix2 ⟨(j.val - 384) / 384, by omega⟩ ⟨(j.val - 384) % 384, by omega⟩) := by
  repeat after_reads_at

/-- The padded image: the three channels and one of ones, zero on the border. -/
theorem padded (b : Fin 512) (c : Fin 4) (y z : Fin 34) :
    (StableHlo.after hostOps0_1 (StableHlo.after hostOps0 V) (Proc.devRef .tc main_v2) : FVec Ideal S512x4x34x34 .f32)
        (ix4 b c y z) =
      if h : c.val < 3 then xpad (V (Proc.devRef .tc main_arg0) : FVec Ideal S512x3x32x32 .f32) b ⟨c.val, h⟩ y.val z.val
      else if (1 ≤ y.val ∧ y.val < 33) ∧ (1 ≤ z.val ∧ z.val < 33) then 1 else 0 := by
  have hz : (FloatOps.sitofp FTy.f32 0#32 : Ideal .f32) = (0 : EReal) := by
    show (((0#32 : BitVec 32).toInt : ℝ) : EReal) = 0
    simp
  repeat after_reads_at
  rw [hz]
  unfold xpad
  split_ifs <;> first | rfl | omega
end Reads

/-- The filter of column `j` of the filter matrix. -/
def wcol (a1 : FVec Ideal S8x384x3x3x3 .f32) (a3 : FVec Ideal S384x3x3x3 .f32) (j : Fin 3456) (ci dy dx : Fin 3) : EReal :=
  if h : j.val < 384 then a3 (ix4 ⟨j.val, h⟩ ci dy dx)
  else a1 (ix5 ⟨(j.val - 384) / 384, by omega⟩ ⟨(j.val - 384) % 384, by omega⟩ ci dy dx)

/-- The bias of column `j`. -/
def bcol (a2 : FVec Ideal S8x384 .f32) (a4 : FVec Ideal S384 .f32) (j : Fin 3456) : EReal :=
  if h : j.val < 384 then a4 (ix1 ⟨j.val, h⟩) else a2 (ix2 ⟨(j.val - 384) / 384, by omega⟩ ⟨(j.val - 384) % 384, by omega⟩)

variable (m : (ℓ : Loc nD τ sig) → Buf (Elt Ideal) ℓ) (ρ : Dev nD → PrngReg) (c : Dev nD)

/-- The patch matrix when the first region is entered. -/
def patches : S28x524288.Idx → EReal := W3 m ρ c (Proc.devRef .tc main_v100)

/-- The filter matrix when the first region is entered. -/
def filts : S28x3456.Idx → EReal := W3 m ρ c (Proc.devRef .tc main_v109)

theorem patches_apply (k : Fin 28) (e : Fin 524288) : patches m ρ c (ix2 k e) =
    at4 (W2 m ρ c (Proc.devRef .tc main_v2)) (e.val / 1024) (k.val / 9)
      (e.val / 512 % 2 * 16 + e.val / 16 % 16 + if k.val < 27 then k.val / 3 % 3 else 1)
      (e.val / 256 % 2 * 16 + e.val % 16 + if k.val < 27 then k.val % 3 else 1) := taps (W2 m ρ c) k e

theorem filts_apply (k : Fin 28) (j : Fin 3456) : filts m ρ c (ix2 k j) =
    if h : k.val < 27 then
      wcol (m ((c : Thread nD τ).loc main_arg1)) (m ((c : Thread nD τ).loc main_arg3)) j
        ⟨k.val / 9, by omega⟩ ⟨k.val / 3 % 3, by omega⟩ ⟨k.val % 3, by omega⟩
    else bcol (m ((c : Thread nD τ).loc main_arg2)) (m ((c : Thread nD τ).loc main_arg4)) j := by
  have hr := filters (W2 m ρ c) k j
  rw [W2_args m ρ c main_arg1 (by decide), W2_args m ρ c main_arg2 (by decide), W2_args m ρ c main_arg3 (by decide),
    W2_args m ρ c main_arg4 (by decide)] at hr
  exact hr

/-- Channel `ch` of the padded image. -/
theorem image (b : Fin 512) (ch y z : ℕ) (hch : ch < 4) (hy : y < 34) (hz : z < 34) :
    at4 (W2 m ρ c (Proc.devRef .tc main_v2)) b.val ch y z =
      if h : ch < 3 then xpad (m ((c : Thread nD τ).loc main_arg0) : FVec Ideal S512x3x32x32 .f32) b ⟨ch, h⟩ y z
      else if (1 ≤ y ∧ y < 33) ∧ (1 ≤ z ∧ z < 33) then 1 else 0 := by
  unfold at4
  rw [dif_pos ⟨⟨b.isLt, hch⟩, hy, hz⟩]
  exact padded (W0 m ρ c) b ⟨ch, hch⟩ ⟨y, hy⟩ ⟨z, hz⟩

/-- A pixel's row of the patch matrix against a column of filters is the convolution there. -/
theorem stem (s : Fin 2048) (p : Fin 256) (j : Fin 3456) :
    ∑ k : Fin 28,
        patches m ρ c (ix2 k ⟨s.val * 256 + p.val, by omega⟩) * filts m ρ c (ix2 k j) =
      conv (m ((c : Thread nD τ).loc main_arg0) : FVec Ideal S512x3x32x32 .f32)
        (wcol (m ((c : Thread nD τ).loc main_arg1)) (m ((c : Thread nD τ).loc main_arg3)) j)
        (bcol (m ((c : Thread nD τ).loc main_arg2)) (m ((c : Thread nD τ).loc main_arg4)) j)
        ⟨s.val / 4, by omega⟩ (16 * (s.val % 4 / 2) + p.val / 16) (16 * (s.val % 4 % 2) + p.val % 16) := by
  have hp := p.isLt
  have hs := s.isLt
  have hpix : ∀ k : Fin 28, patches m ρ c (ix2 k ⟨s.val * 256 + p.val, by omega⟩) =
      at4 (W2 m ρ c (Proc.devRef .tc main_v2)) (s.val / 4) (k.val / 9)
        (16 * (s.val % 4 / 2) + p.val / 16 + if k.val < 27 then k.val / 3 % 3 else 1)
        (16 * (s.val % 4 % 2) + p.val % 16 + if k.val < 27 then k.val % 3 else 1) := by
    intro k
    rw [patches_apply]
    congr 1 <;> dsimp only <;> omega
  simp only [hpix, filts_apply]
  rw [Fin.sum_univ_castSucc, sum_rows 3 9 27 rfl]
  unfold conv
  congr 1
  · refine Finset.sum_congr rfl fun ci _ => ?_
    rw [sum_rows 3 3 9 rfl]
    refine Finset.sum_congr rfl fun dy _ => Finset.sum_congr rfl fun dx _ => ?_
    have hk : ∀ h : (ci.val * 9 + (dy.val * 3 + dx.val)) < 27,
        (⟨ci.val * 9 + (dy.val * 3 + dx.val), h⟩ : Fin 27).castSucc.val = ci.val * 9 + (dy.val * 3 + dx.val) := fun _ => rfl
    have h1 : (ci.val * 9 + (dy.val * 3 + dx.val)) < 27 := by omega
    simp only [hk, if_pos h1, dif_pos h1]
    rw [image m ρ c ⟨s.val / 4, by omega⟩ _ _ _ (by omega) (by omega) (by omega), dif_pos (by omega)]
    congr 1
    · congr 1 <;> first | (apply Fin.ext; dsimp only; omega) | omega
    · congr 1 <;> (apply Fin.ext; dsimp only; omega)
  · have hk : (Fin.last 27).val = 27 := rfl
    simp only [hk, if_neg (lt_irrefl 27), dif_neg (lt_irrefl 27)]
    rw [image m ρ c ⟨s.val / 4, by omega⟩ _ _ _ (by omega) (by omega) (by omega), dif_neg (by omega), if_pos (by omega), one_mul]

end Cert.KernelIdeal.Gen

end
-- ==== Proof.Pooled.lean ====
/-
  What the first region leaves: the array of quadrant sums, one row per quadrant of an image and one column per filter.
-/
module

public import proofs.«01_k».proof.Proof.Stem
public import Idealize.ShloMosaic.Lib.Pipeline.ValueKit

@[expose] public section

set_option maxRecDepth 16384

noncomputable section

namespace Cert.KernelIdeal.Gen

open Idealize.ShloMosaic Idealize.ShloMosaic.TcCoe Cert.Spec

theorem hz2 : (![0, 0] : Fin 2 → Nat) = fun _ => 0 := funext fun a => by fin_cases a <;> rfl

/-- The body of the first region, read: one quadrant's rectified products summed over its 256 pixels. -/
theorem body0 (x0 : Vec Ideal S28x8192 .bf16) (x1 : Vec Ideal S28x1152 .bf16) (s : Fin 32) (j : Fin 1152) :
    (out0_2 x0 x1 : Vec Ideal S32x1152 .f32) (ix2 s j) =
      ∑ p : Fin 256, max (∑ k : Fin 28, (x0 (ix2 k ⟨s.val * 256 + p.val, by omega⟩) : EReal) * x1 (ix2 k j)) 0 := by
  unfold out0_2
  rw [View.canon_unit_zero hz2, View.ld_unit_zero hz2, View.ld_unit_zero hz2]
  unfold k0_pay1
  pointwise

variable (m : (ℓ : Loc nD τ sig) → Buf (Elt Ideal) ℓ) (ρ : Dev nD → PrngReg) (c : Dev nD)

/-- The quadrant sums, from the argument arrays. -/
def pooled (s : Fin 2048) (j : Fin 3456) : EReal :=
  pool (m ((c : Thread nD τ).loc main_arg0) : FVec Ideal S512x3x32x32 .f32)
    (wcol (m ((c : Thread nD τ).loc main_arg1)) (m ((c : Thread nD τ).loc main_arg3)) j)
    (bcol (m ((c : Thread nD τ).loc main_arg2)) (m ((c : Thread nD τ).loc main_arg4)) j)
    ⟨s.val / 4, by omega⟩ ⟨s.val % 4, by omega⟩

theorem index0_0 : ∀ t : Fin cfg0.N, win0_0.index t = ![0, t.val / 3] := (by decide +kernel : ∀ t : Fin grid0.N, _)
theorem index0_1 : ∀ t : Fin cfg0.N, win0_1.index t = ![0, t.val % 3] := (by decide +kernel : ∀ t : Fin grid0.N, _)
theorem index0_2 : ∀ t : Fin cfg0.N, win0_2.index t = ![t.val / 3, t.val % 3] := (by decide +kernel : ∀ t : Fin grid0.N, _)

section Blocks
variable (V : (c : Dev nD) → (b : Ref sig .tc) → Buf (Elt Ideal) ((c : Thread nD τ).loc b))

/-- The patch block of a point. -/
theorem block0_0 (t : Fin cfg0.N) (k : Fin 28) (e : Fin 8192) (he : t.val / 3 * 8192 + e.val < 524288) :
    iblk0 V c 0 t (ix2 k e) = (V c main_v100 : FVec Ideal S28x524288 .bf16) (ix2 k ⟨t.val / 3 * 8192 + e.val, he⟩) := by
  blk_simp [iblk0]
  exact congrArg (V c main_v100) (by blk_ext [index0_0])

/-- The filter block of a point. -/
theorem block0_1 (t : Fin cfg0.N) (k : Fin 28) (e : Fin 1152) (he : t.val % 3 * 1152 + e.val < 3456) :
    iblk0 V c 1 t (ix2 k e) = (V c main_v109 : FVec Ideal S28x3456 .bf16) (ix2 k ⟨t.val % 3 * 1152 + e.val, he⟩) := by
  blk_simp [iblk0]
  exact congrArg (V c main_v109) (by blk_ext [index0_1])
end Blocks

/-- What the body leaves at a point, on any blocks that read the two matrices there. -/
theorem point0 (t : ℕ) (ht : t < 192) (x0 : Vec Ideal S28x8192 .bf16) (x1 : Vec Ideal S28x1152 .bf16)
    (h0 : ∀ (k : Fin 28) (e : Fin 8192), x0 (ix2 k e) = patches m ρ c (ix2 k ⟨t / 3 * 8192 + e.val, by omega⟩))
    (h1 : ∀ (k : Fin 28) (e : Fin 1152), x1 (ix2 k e) = filts m ρ c (ix2 k ⟨t % 3 * 1152 + e.val, by omega⟩))
    (s : Fin 32) (j : Fin 1152) :
    (out0_2 x0 x1 : Vec Ideal S32x1152 .f32) (ix2 s j) =
      pooled m c ⟨t / 3 * 32 + s.val, by omega⟩ ⟨t % 3 * 1152 + j.val, by omega⟩ := by
  rw [body0]
  unfold pooled Spec.pool
  refine Finset.sum_congr rfl fun p _ => ?_
  rw [← stem m ρ c ⟨t / 3 * 32 + s.val, by omega⟩ p ⟨t % 3 * 1152 + j.val, by omega⟩]
  refine congrArg (max · 0) (Finset.sum_congr rfl fun k _ => ?_)
  rw [h0, h1]
  congr 3
  apply Fin.ext; dsimp only; omega

theorem pooled_final :
    (dat0 (V3 m ρ) c).arrAt 2 cfg0.N = fun i : S2048x3456.Idx => pooled m c (i 0) (i 1) := by
  refine (dat0 (V3 m ρ) c).arrAt_eq_of_covers 2 _ (by decide +kernel) fun t hf y => ?_
  blk_simp
  rw [after0_2]
  have hs : (y 0).val < 32 := (y 0).isLt
  have hj : (y 1).val < 1152 := (y 1).isLt
  have ht : t.val < 192 := t.isLt
  have hq : (win0_2.blk t).view.emb y 0 = (⟨t.val / 3 * 32 + (y 0).val, by omega⟩ : Fin 2048) :=
    Fin.ext (by blk_simp [index0_2])
  have hc : (win0_2.blk t).view.emb y 1 = (⟨t.val % 3 * 1152 + (y 1).val, by omega⟩ : Fin 3456) :=
    Fin.ext (by blk_simp [index0_2])
  rw [hq, hc]
  exact (congrArg _ (eq_ix2 y)).trans (point0 m ρ c t.val ht _ _ (fun k e => block0_0 c (V3 m ρ) t k e (by omega))
    (fun k e => block0_1 c (V3 m ρ) t k e (by omega)) (⟨(y 0).val, hs⟩ : Fin 32) (⟨(y 1).val, hj⟩ : Fin 1152))

end Cert.KernelIdeal.Gen

end
-- ==== Proof.Tables.lean ====
/-
  The arrays the second region reads beside the quadrant sums, at an index: the two 0/1 selection matrices that the host
  program builds from index arithmetic, the second gate's and the linear experts' weights in the kernel's row order, and
  the two bias rows.
-/
module

public import proofs.«01_k».proof.Proof.Gen.KernelIdeal.Frame
public import proofs.«01_k».proof.Proof.Spec
public import Idealize.ShloMosaic.Lib.StableHlo.ReadAt

@[expose] public section

set_option maxRecDepth 16384

noncomputable section

namespace Cert.KernelIdeal.Gen

open Idealize.ShloMosaic Idealize.ShloMosaic.TcCoe

/-- A bit as a float. -/
theorem bit_float (p : Prop) [Decidable p] (w v : BitVec 32) (h : w = v ↔ p) :
    (FloatOps.uitofp FTy.f32 (IntOp.cmpi CmpIPredicate.eq w v) : Ideal .f32) = if p then (1 : EReal) else 0 := by
  show (((IntOp.cmpi CmpIPredicate.eq w v).toNat : ℝ) : EReal) = _
  by_cases hp : p
  · rw [if_pos hp]; simp [IntOp.cmpi, h.mpr hp]
  · have hn : w ≠ v := fun e => hp (h.mp e)
    rw [if_neg hp]; simp [IntOp.cmpi, hn]

/-- The sign of a word. -/
def wsign (w : BitVec 32) : BitVec 32 := if w = 0 then 0 else if w.msb = true then -1 else 1

/-- The floor of a quotient of words, as the host program computes it. -/
def wfloor (w d : BitVec 32) : BitVec 32 :=
  Scalar.select
    (IntOp.andi (IntOp.cmpi CmpIPredicate.ne (wsign w) (wsign d))
      (IntOp.cmpi CmpIPredicate.ne (IntOp.remsi ArithUnit.host w d) 0#32))
    (IntOp.subi (IntOp.divsi ArithUnit.host w d) 1#32) (IntOp.divsi ArithUnit.host w d)

/-- The divisor the host program takes a remainder by: never zero. -/
def wdiv (d : BitVec 32) : BitVec 32 := Scalar.select (IntOp.cmpi CmpIPredicate.eq d 0#32) (1#32) d

/-- The remainder of the floored quotient, as the host program computes it. -/
def wmod (w d : BitVec 32) : BitVec 32 :=
  Scalar.select
    (IntOp.andi
      (IntOp.cmpi CmpIPredicate.ne (IntOp.cmpi CmpIPredicate.slt (IntOp.remsi ArithUnit.host w (wdiv d)) 0#32)
        (IntOp.cmpi CmpIPredicate.slt (wdiv d) 0#32))
      (IntOp.cmpi CmpIPredicate.ne (IntOp.remsi ArithUnit.host w (wdiv d)) 0#32))
    (IntOp.addi (IntOp.remsi ArithUnit.host w (wdiv d)) (wdiv d)) (IntOp.remsi ArithUnit.host w (wdiv d))

theorem wfloor_4 : ∀ t : Fin 512, wfloor (BitVec.ofNat 32 t.val) 4#32 = BitVec.ofNat 32 (t.val / 4) := by decide +kernel
theorem wrow : ∀ r : Fin 512,
    IntOp.addi (IntOp.muli (4#32) (wmod (BitVec.ofNat 32 r.val) 128#32)) (wfloor (BitVec.ofNat 32 r.val) 128#32)
      = BitVec.ofNat 32 (4 * (r.val % 128) + r.val / 128) := by decide +kernel

theorem ofNat_inj32 (a b : ℕ) (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

variable (V : Valuation τ sig (Elt Ideal))

/-- Column `t` belongs to sample `t / 4`. -/
theorem sumTable (b : Fin 128) (t : Fin 512) :
    (StableHlo.after hostOps1_2 (StableHlo.after hostOps1_1 (StableHlo.after hostOps1 V)) (Proc.devRef .tc main_v127)
      : FVec Ideal S128x512 .f32) (ix2 b t) = if t.val / 4 = b.val then (1 : EReal) else 0 := by
  after_reads_at
  exact bit_float (t.val / 4 = b.val) (BitVec.ofNat 32 b.val) (wfloor (BitVec.ofNat 32 t.val) 4#32) (by
    rw [wfloor_4 t, ofNat_inj32 _ _ (by omega) (by omega)]; exact eq_comm)

/-- Row `r` takes column `4 * (r % 128) + r / 128`. -/
theorem rowTable (r t : Fin 512) :
    (StableHlo.after hostOps1_6 (StableHlo.after hostOps1_5 (StableHlo.after hostOps1_4 (StableHlo.after hostOps1_3
      (StableHlo.after hostOps1_2 (StableHlo.after hostOps1_1 (StableHlo.after hostOps1 V)))))) (Proc.devRef .tc main_v139)
      : FVec Ideal S512x512 .f32) (ix2 r t) = if t.val = 4 * (r.val % 128) + r.val / 128 then (1 : EReal) else 0 := by
  after_reads_at
  exact bit_float (t.val = 4 * (r.val % 128) + r.val / 128) (BitVec.ofNat 32 t.val)
    (IntOp.addi (IntOp.muli (4#32) (wmod (BitVec.ofNat 32 r.val) 128#32)) (wfloor (BitVec.ofNat 32 r.val) 128#32)) (by
    rw [wrow r]; exact ofNat_inj32 _ _ (by omega) (by omega))

/-- The second gate's weights, quadrant by quadrant. -/
theorem gateRows (qd : Fin 4) (ch : Fin 384) (e : Fin 8) :
    (StableHlo.after hostOps1 V (Proc.devRef .tc main_v113) : FVec Ideal S1536x8 .f32) (ix2 ⟨qd.val * 384 + ch.val, by omega⟩ e)
      = (V (Proc.devRef .tc main_arg9) : FVec Ideal S1536x8 .f32) (ix2 ⟨ch.val * 4 + qd.val, by omega⟩ e) := by
  after_reads_at

/-- The linear experts' weights, quadrant by quadrant, the experts' columns side by side. -/
theorem expertRows (qd : Fin 4) (ch : Fin 384) (e : Fin 8) (n : Fin 100) :
    (StableHlo.after hostOps1 V (Proc.devRef .tc main_v118) : FVec Ideal S1536x800 .f32)
        (ix2 ⟨qd.val * 384 + ch.val, by omega⟩ ⟨e.val * 100 + n.val, by omega⟩)
      = (V (Proc.devRef .tc main_arg7) : FVec Ideal S8x1536x100 .f32) (ix3 e ⟨ch.val * 4 + qd.val, by omega⟩ n) := by
  after_reads_at
  congr 2 <;> (apply Fin.ext; dsimp only; omega)

theorem biasRow1 (t : Fin 1) (e : Fin 8) :
    (StableHlo.after hostOps1_6 V (Proc.devRef .tc main_v140) : FVec Ideal S1x8 .f32) (ix2 t e)
      = (V (Proc.devRef .tc main_arg6) : FVec Ideal S8 .f32) (ix1 e) := by
  after_reads_at

theorem biasRow2 (t : Fin 1) (e : Fin 8) :
    (StableHlo.after hostOps1_6 V (Proc.devRef .tc main_v141) : FVec Ideal S1x8 .f32) (ix2 t e)
      = (V (Proc.devRef .tc main_arg10) : FVec Ideal S8 .f32) (ix1 e) := by
  after_reads_at

end Cert.KernelIdeal.Gen

end
-- ==== Proof.Head.lean ====
/-
  What the head kernel stores, sample by sample: its payloads read at an index, with the row-selection matrices `T`
  and `T4` and the permuted weights replaced by what they select. The result is the last mixture with the biases mixed
  apart (`Spec.mixApart`) of the sample's four rows of quadrant sums.
-/
module

public import proofs.«01_k».proof.Proof.Spec
public import proofs.«01_k».proof.Proof.Gen.KernelIdeal.Frame
public import Idealize.ShloMosaic.Lib.Pipeline.Value

@[expose] public section

noncomputable section

namespace Cert.Head

open Idealize.ShloMosaic Cert.KernelIdeal Cert.KernelIdeal.Gen Cert.Spec

/-- The router's quadrant sums of the block's sample `b`. -/
def Qr (v0 : Vec Ideal S512x3456 .f32) (b : Fin 128) (qd : Fin 4) (c : Fin 384) : EReal :=
  v0 (ix2 ⟨b.val * 4 + qd.val, by omega⟩ ⟨c.val, by omega⟩)

/-- The experts' quadrant sums of the block's sample `b`. -/
def Qe (v0 : Vec Ideal S512x3456 .f32) (b : Fin 128) (qd : Fin 4) (e : Fin 8) (c : Fin 384) : EReal :=
  v0 (ix2 ⟨b.val * 4 + qd.val, by omega⟩ ⟨384 + e.val * 384 + c.val, by omega⟩)

/-- The first gate of the block's sample `b`. -/
def g1 (v0 : Vec Ideal S512x3456 .f32) (Wrg : Vec Ideal S384x8 .f32) (brg : Vec Ideal S1x8 .f32) (b : Fin 128) : Fin 8 → EReal :=
  smax (logits1 (Qr v0 b) Wrg fun e => brg (ix2 0 e))

/-- The pooled features of the block's sample `b`. -/
def ft (v0 : Vec Ideal S512x3456 .f32) (Wrg : Vec Ideal S384x8 .f32) (brg : Vec Ideal S1x8 .f32) (b : Fin 128) : Fin 4 → Fin 384 → EReal :=
  feat (g1 v0 Wrg brg b) (Qe v0 b)

/-- The second gate of the block's sample `b`. -/
def g2 (v0 : Vec Ideal S512x3456 .f32) (Wrg : Vec Ideal S384x8 .f32) (brg : Vec Ideal S1x8 .f32) (Wfr : Vec Ideal S1536x8 .f32)
    (bfr : Vec Ideal S1x8 .f32) (b : Fin 128) : Fin 8 → EReal :=
  smax (logits2 (ft v0 Wrg brg b) Wfr fun e => bfr (ix2 0 e))

section
variable (v0 : Vec Ideal S512x3456 .f32) (T : Vec Ideal S128x512 .f32) (T4 : Vec Ideal S512x512 .f32)
  (Wrg : Vec Ideal S384x8 .f32) (brg : Vec Ideal S1x8 .f32)

/-- The first gate, repeated over a sample's four rows. -/
theorem pay3_apply (hT : ∀ b t, T (ix2 b t) = if t.val / 4 = b.val then 1 else 0) (b : Fin 128) (qd : Fin 4) (e : Fin 8) :
    k1_pay3 v0 T Wrg brg T (ix2 ⟨b.val * 4 + qd.val, by omega⟩ e) = g1 v0 Wrg brg b e := by
  have raw : ∀ s : Fin 512, k1_pay3 v0 T Wrg brg T (ix2 s e)
      = ∑ x : Fin 128, T (ix2 x s) * smax (fun e => (∑ c : Fin 384, ((∑ t : Fin 512, T (ix2 x t) * v0 (ix2 t ⟨c.val, by omega⟩))
          * Ideal.ofBits .f32 0x3A800000#32) * Wrg (ix2 c e)) + brg (ix2 0 e)) e := by
    intro s
    unfold k1_pay3 k1_pay2
    pointwise
    rfl
  rw [raw]
  simp only [hT, ite_mul, one_mul, zero_mul, sum_four]
  rw [sum_one b _ fun t => by rw [Fin.ext_iff]; omega]
  rfl

/-- The pooled features, quadrant by quadrant. -/
theorem pay7_apply (v25 : FVec Ideal S512x8 .f32)
    (h4 : ∀ r t, T4 (ix2 r t) = if t.val = 4 * (r.val % 128) + r.val / 128 then 1 else 0) (b : Fin 128) (qd : Fin 4) (c : Fin 384)
    (v39 v41 v42 : FVec Ideal S512x384 .f32) (t : Fin 512) (ht : t.val = b.val * 4 + qd.val) :
    k1_pay7 v0 v25 v39 v41 v42 T4 (ix2 b ⟨qd.val * 384 + c.val, by omega⟩)
      = (v39 (ix2 t c) + v42 (ix2 t c) * v41 (ix2 t c) + v25 (ix2 t 4) * v0 (ix2 t ⟨1920 + c.val, by omega⟩)
          + v25 (ix2 t 5) * v0 (ix2 t ⟨2304 + c.val, by omega⟩) + v25 (ix2 t 6) * v0 (ix2 t ⟨2688 + c.val, by omega⟩)
          + v25 (ix2 t 7) * v0 (ix2 t ⟨3072 + c.val, by omega⟩)) * Ideal.ofBits .f32 0x3B800000#32 := by
  have hc := c.isLt
  unfold k1_pay7
  pointwise [h4, ite_mul, zero_mul]
  congr 1
  match qd with
  | 0 =>
    rw [dif_pos (by simp), sum_one t _ fun t' => by rw [Fin.ext_iff]; simp at *; omega]
    simp
  | 1 =>
    rw [dif_neg (by simp), dif_pos (by simp), sum_one t _ fun t' => by rw [Fin.ext_iff]; simp at *; omega]
    simp
  | 2 =>
    rw [dif_neg (by simp; omega), dif_neg (by simp; omega), dif_pos (by simp; omega), sum_one t _ fun t' => by rw [Fin.ext_iff]; simp at *; omega]
    simp [Nat.sub_sub]
  | 3 =>
    rw [dif_neg (by simp; omega), dif_neg (by simp; omega), dif_neg (by simp; omega), sum_one t _ fun t' => by rw [Fin.ext_iff]; simp at *; omega]
    simp [Nat.sub_sub]

/-- The whole feature payload: the gated mixture of the experts' quadrant sums over the quadrant's size. -/
theorem feat_apply (hT : ∀ b t, T (ix2 b t) = if t.val / 4 = b.val then 1 else 0)
    (h4 : ∀ r t, T4 (ix2 r t) = if t.val = 4 * (r.val % 128) + r.val / 128 then 1 else 0) (b : Fin 128) (qd : Fin 4) (c : Fin 384) :
    k1_pay7 v0 (k1_pay3 v0 T Wrg brg T) (k1_pay4 v0 T Wrg brg T) (k1_pay5 v0) (k1_pay6 v0 T Wrg brg T) T4
        (ix2 b ⟨qd.val * 384 + c.val, by omega⟩) = ft v0 Wrg brg b qd c := by
  rw [pay7_apply v0 T4 _ h4 b qd c _ _ _ ⟨b.val * 4 + qd.val, by omega⟩ rfl]
  unfold k1_pay4 k1_pay5 k1_pay6 k1_pay2
  pointwise [pay3_apply v0 T Wrg brg hT]
  simp [ft, feat, Fin.sum_univ_eight, Qe]

variable (Wfrp : Vec Ideal S1536x8 .f32) (bfr : Vec Ideal S1x8 .f32) (Wfp : Vec Ideal S1536x800 .f32) (bf : Vec Ideal S8x100 .f32)

/-- What the head kernel stores for the block's sample `b` in column `n`. -/
theorem out_apply (Wfr : Vec Ideal S1536x8 .f32) (Wf : (⟨3, ![8, 1536, 100]⟩ : Shape).Idx → EReal)
    (hT : ∀ b t, T (ix2 b t) = if t.val / 4 = b.val then 1 else 0)
    (h4 : ∀ r t, T4 (ix2 r t) = if t.val = 4 * (r.val % 128) + r.val / 128 then 1 else 0)
    (hfr : ∀ (qd : Fin 4) (c : Fin 384) e, Wfrp (ix2 ⟨qd.val * 384 + c.val, by omega⟩ e) = Wfr (ix2 ⟨c.val * 4 + qd.val, by omega⟩ e))
    (hf : ∀ (qd : Fin 4) (c : Fin 384) (e : Fin 8) (n : Fin 100), Wfp (ix2 ⟨qd.val * 384 + c.val, by omega⟩ ⟨e.val * 100 + n.val, by omega⟩)
      = Wf (ix3 e ⟨c.val * 4 + qd.val, by omega⟩ n)) (b : Fin 128) (n : Fin 100) :
    out1_9 v0 T T4 Wrg brg Wfrp bfr Wfp bf (ix2 b n)
      = mixApart (g2 v0 Wrg brg Wfr bfr b) (fun e => lin (ft v0 Wrg brg b) Wf e n) (fun e => bf (ix2 e n)) := by
  have z2 : (![0, 0] : Fin 2 → Nat) = fun _ => 0 := by decide
  unfold_out out1_9
  rw [View.canon_unit_zero z2]
  simp only [View.ld_unit_zero (S := S512x3456) z2, View.ld_unit_zero (S := S128x512) z2, View.ld_unit_zero (S := S512x512) z2,
    View.ld_unit_zero (S := S384x8) z2, View.ld_unit_zero (S := S1x8) z2, View.ld_unit_zero (S := S1536x8) z2,
    View.ld_unit_zero (S := S1536x800) z2, View.ld_unit_zero (S := S8x100) z2]
  have hF := feat_apply v0 T T4 Wrg brg hT h4
  have e2 : k1_pay2 v0 = v0 := by unfold k1_pay2; funext j; pointwise
  have hG : ∀ (b : Fin 128) e, k1_pay8 (F := Ideal) v0 (k1_pay3 v0 T Wrg brg T) (k1_pay4 v0 T Wrg brg T) (k1_pay5 v0) (k1_pay6 v0 T Wrg brg T) T4
      Wfrp bfr (ix2 b e) = g2 v0 Wrg brg Wfr bfr b e := by
    intro b e
    unfold k1_pay8
    pointwise
    simp only [sum_feat, hF, hfr]
    rfl
  rw [e2]
  revert hF hG
  generalize k1_pay8 (F := Ideal) v0 _ _ _ _ _ _ _ = G
  generalize k1_pay7 (F := Ideal) v0 _ _ _ _ _ = H
  intro hF hG
  unfold k1_pay1
  pointwise
  have hz : ∀ (e : Fin 8) (k : Fin 800), k.val = e.val * 100 + n.val →
      (∑ x : Fin 1536, H (ix2 b x) * Wfp (ix2 x k)) = lin (ft v0 Wrg brg b) Wf e n := by
    intro e k hk
    rw [show k = ⟨e.val * 100 + n.val, by omega⟩ from Fin.ext hk]
    simp only [sum_feat, hF, hf]
    rfl
  simp only [hG]
  rw [hz 0 _ (by simp), hz 1 _ (by simp), hz 2 _ (by simp), hz 3 _ (by simp), hz 4 _ (by simp), hz 5 _ (by simp),
    hz 6 _ (by simp), hz 7 _ (by simp)]
  simp [mixApart, Fin.sum_univ_eight]

end

end Cert.Head

end
-- ==== Proof.Sample.lean ====
/-
  One sample's result from the eleven argument arrays, in the two forms the proof meets: with the last biases mixed
  apart, as the kernel does, and with each linear expert's bias added to its output, as the reference does.
-/
module

public import proofs.«01_k».proof.Proof.Spec

@[expose] public section

noncomputable section

namespace Cert.Spec

open Idealize.ShloMosaic

/-- The argument arrays, as the programs take them. -/
structure Inputs where
  /-- the images -/
  x : (⟨4, ![512, 3, 32, 32]⟩ : Shape).Idx → EReal
  /-- the convolution experts' filters and biases -/
  Wc : (⟨5, ![8, 384, 3, 3, 3]⟩ : Shape).Idx → EReal
  bc : (⟨2, ![8, 384]⟩ : Shape).Idx → EReal
  /-- the router's filters and biases -/
  Wrc : (⟨4, ![384, 3, 3, 3]⟩ : Shape).Idx → EReal
  brc : (⟨1, ![384]⟩ : Shape).Idx → EReal
  /-- the first gate -/
  Wrg : (⟨2, ![384, 8]⟩ : Shape).Idx → EReal
  brg : (⟨1, ![8]⟩ : Shape).Idx → EReal
  /-- the linear experts -/
  Wf : (⟨3, ![8, 1536, 100]⟩ : Shape).Idx → EReal
  bf : (⟨2, ![8, 100]⟩ : Shape).Idx → EReal
  /-- the second gate -/
  Wfr : (⟨2, ![1536, 8]⟩ : Shape).Idx → EReal
  bfr : (⟨1, ![8]⟩ : Shape).Idx → EReal

variable (I : Inputs) (s : Fin 512)

/-- The router's quadrant sums. -/
def rsum (qd : Fin 4) (c : Fin 384) : EReal := pool I.x (fun ci dy dx => I.Wrc (ix4 c ci dy dx)) (I.brc (ix1 c)) s qd

/-- The experts' quadrant sums. -/
def esum (qd : Fin 4) (e : Fin 8) (c : Fin 384) : EReal :=
  pool I.x (fun ci dy dx => I.Wc (ix5 e c ci dy dx)) (I.bc (ix2 e c)) s qd

/-- The first gate. -/
def gate1 : Fin 8 → EReal := smax (logits1 (rsum I s) I.Wrg fun e => I.brg (ix1 e))

/-- The pooled features. -/
def feats : Fin 4 → Fin 384 → EReal := feat (gate1 I s) (esum I s)

/-- The second gate. -/
def gate2 : Fin 8 → EReal := smax (logits2 (feats I s) I.Wfr fun e => I.bfr (ix1 e))

/-- The result with the biases mixed apart. -/
def resultApart (n : Fin 100) : EReal := mixApart (gate2 I s) (fun e => lin (feats I s) I.Wf e n) (fun e => I.bf (ix2 e n))

/-- The result with each bias added to its expert's output. -/
def result (n : Fin 100) : EReal := mix (gate2 I s) (fun e => lin (feats I s) I.Wf e n) (fun e => I.bf (ix2 e n))

end Cert.Spec

end
-- ==== Proof.Final.lean ====
/-
  What the second region leaves in the result array: one sample's result per row, from the argument arrays.
-/
module

public import proofs.«01_k».proof.Proof.Pooled
public import proofs.«01_k».proof.Proof.Tables
public import proofs.«01_k».proof.Proof.Head
public import proofs.«01_k».proof.Proof.Sample

@[expose] public section

set_option maxRecDepth 16384

noncomputable section

namespace Cert.KernelIdeal.Gen

open Idealize.ShloMosaic Idealize.ShloMosaic.TcCoe Cert.Spec

variable (m : (ℓ : Loc nD τ sig) → Buf (Elt Ideal) ℓ) (ρ : Dev nD → PrngReg) (c : Dev nD)

/-- The argument arrays at launch. -/
def inputs : Inputs where
  x := m ((c : Thread nD τ).loc main_arg0)
  Wc := m ((c : Thread nD τ).loc main_arg1)
  bc := m ((c : Thread nD τ).loc main_arg2)
  Wrc := m ((c : Thread nD τ).loc main_arg3)
  brc := m ((c : Thread nD τ).loc main_arg4)
  Wrg := m ((c : Thread nD τ).loc main_arg5)
  brg := m ((c : Thread nD τ).loc main_arg6)
  Wf := m ((c : Thread nD τ).loc main_arg7)
  bf := m ((c : Thread nD τ).loc main_arg8)
  Wfr := m ((c : Thread nD τ).loc main_arg9)
  bfr := m ((c : Thread nD τ).loc main_arg10)

/-- A row of quadrant sums is a quadrant of a sample: the router's columns. -/
theorem pooled_router (s : Fin 512) (qd : Fin 4) (ch : Fin 384) (r : Fin 2048) (j : Fin 3456)
    (hr : r.val = s.val * 4 + qd.val) (hj : j.val = ch.val) : pooled m c r j = rsum (inputs m c) s qd ch := by
  rw [show r = ⟨s.val * 4 + qd.val, by omega⟩ from Fin.ext hr, show j = ⟨ch.val, by omega⟩ from Fin.ext hj]
  unfold pooled rsum wcol bcol
  simp only [ch.isLt, dite_true, if_true, reduceDIte]
  congr 1 <;> (apply Fin.ext; dsimp only; omega)

/-- A row of quadrant sums is a quadrant of a sample: the experts' columns. -/
theorem pooled_expert (s : Fin 512) (qd : Fin 4) (e : Fin 8) (ch : Fin 384) (r : Fin 2048) (j : Fin 3456)
    (hr : r.val = s.val * 4 + qd.val) (hj : j.val = 384 + e.val * 384 + ch.val) :
    pooled m c r j = esum (inputs m c) s qd e ch := by
  rw [show r = ⟨s.val * 4 + qd.val, by omega⟩ from Fin.ext hr, show j = ⟨384 + e.val * 384 + ch.val, by omega⟩ from Fin.ext hj]
  have hn : ¬ (384 + e.val * 384 + ch.val < 384) := by omega
  have he : (⟨(384 + e.val * 384 + ch.val - 384) / 384, by omega⟩ : Fin 8) = e := Fin.ext (by dsimp only; omega)
  have hc : (⟨(384 + e.val * 384 + ch.val - 384) % 384, by omega⟩ : Fin 384) = ch := Fin.ext (by dsimp only; omega)
  unfold pooled esum wcol bcol
  simp only [hn, reduceDIte, he, hc]
  congr 1 <;> (apply Fin.ext; dsimp only; omega)

theorem index1_0 : ∀ t : Fin cfg1.N, win1_0.index t = ![t.val, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)
theorem index1_9 : ∀ t : Fin cfg1.N, win1_9.index t = ![t.val, 0] := (by decide +kernel : ∀ t : Fin grid1.N, _)

section Blocks
variable (V : (c : Dev nD) → (b : Ref sig .tc) → Buf (Elt Ideal) ((c : Thread nD τ).loc b))

theorem block1_0 (t : Fin cfg1.N) (k : Fin 512) (j : Fin 3456) (hk : t.val * 512 + k.val < 2048) :
    iblk1 V c 0 t (ix2 k j) = (V c main_v110 : FVec Ideal S2048x3456 .f32) (ix2 ⟨t.val * 512 + k.val, hk⟩ j) := by
  blk_simp [iblk1]
  exact congrArg (V c main_v110) (by blk_ext [index1_0])

theorem block1_1 (t : Fin cfg1.N) (i : Fin 128) (j : Fin 512) :
    iblk1 V c 1 t (ix2 i j) = (V c main_v127 : FVec Ideal S128x512 .f32) (ix2 i j) := by
  blk_simp [iblk1]
  exact congrArg (V c main_v127) (by blk_ext [index1_1])

theorem block1_2 (t : Fin cfg1.N) (i j : Fin 512) :
    iblk1 V c 2 t (ix2 i j) = (V c main_v139 : FVec Ideal S512x512 .f32) (ix2 i j) := by
  blk_simp [iblk1]
  exact congrArg (V c main_v139) (by blk_ext [index1_2])

theorem block1_3 (t : Fin cfg1.N) (i : Fin 384) (j : Fin 8) :
    iblk1 V c 3 t (ix2 i j) = (V c main_arg5 : FVec Ideal S384x8 .f32) (ix2 i j) := by
  blk_simp [iblk1]
  exact congrArg (V c main_arg5) (by blk_ext [index1_3])

theorem block1_4 (t : Fin cfg1.N) (i : Fin 1) (j : Fin 8) :
    iblk1 V c 4 t (ix2 i j) = (V c main_v140 : FVec Ideal S1x8 .f32) (ix2 i j) := by
  blk_simp [iblk1]
  exact congrArg (V c main_v140) (by blk_ext [index1_4])

theorem block1_5 (t : Fin cfg1.N) (i : Fin 1536) (j : Fin 8) :
    iblk1 V c 5 t (ix2 i j) = (V c main_v113 : FVec Ideal S1536x8 .f32) (ix2 i j) := by
  blk_simp [iblk1]
  exact congrArg (V c main_v113) (by blk_ext [index1_5])

theorem block1_6 (t : Fin cfg1.N) (i : Fin 1) (j : Fin 8) :
    iblk1 V c 6 t (ix2 i j) = (V c main_v141 : FVec Ideal S1x8 .f32) (ix2 i j) := by
  blk_simp [iblk1]
  exact congrArg (V c main_v141) (by blk_ext [index1_6])

theorem block1_7 (t : Fin cfg1.N) (i : Fin 1536) (j : Fin 800) :
    iblk1 V c 7 t (ix2 i j) = (V c main_v118 : FVec Ideal S1536x800 .f32) (ix2 i j) := by
  blk_simp [iblk1]
  exact congrArg (V c main_v118) (by blk_ext [index1_7])

theorem block1_8 (t : Fin cfg1.N) (i : Fin 8) (j : Fin 100) :
    iblk1 V c 8 t (ix2 i j) = (V c main_arg8 : FVec Ideal S8x100 .f32) (ix2 i j) := by
  blk_simp [iblk1]
  exact congrArg (V c main_arg8) (by blk_ext [index1_8])
end Blocks

/-! ### The arrays the region starts from -/

theorem start_sums (r : Fin 2048) (j : Fin 3456) :
    (V11 m ρ c main_v110 : FVec Ideal S2048x3456 .f32) (ix2 r j) = pooled m c r j := by
  have e : V11 m ρ c main_v110 = (dat0 (V3 m ρ) c).arrAt 2 cfg0.N :=
    (W11_of m ρ c main_v110 (by decide)).trans <| (W10_of m ρ c main_v110 (by decide)).trans <|
      (W9_of m ρ c main_v110 (by decide)).trans <| (W8_of m ρ c main_v110 (by decide)).trans <|
      (W7_of m ρ c main_v110 (by decide)).trans <| (W6_of m ρ c main_v110 (by decide)).trans <|
      (W5_of m ρ c main_v110 (by decide)).trans (W4_arr m ρ c 2)
  exact (congrFun (e.trans (pooled_final m ρ c)) (ix2 r j))

theorem start_sumTable (b : Fin 128) (t : Fin 512) :
    (V11 m ρ c main_v127 : FVec Ideal S128x512 .f32) (ix2 b t) = if t.val / 4 = b.val then (1 : EReal) else 0 := by
  have e : V11 m ρ c main_v127 = W7 m ρ c (Proc.devRef .tc main_v127) :=
    (W11_of m ρ c main_v127 (by decide)).trans <| (W10_of m ρ c main_v127 (by decide)).trans <|
      (W9_of m ρ c main_v127 (by decide)).trans (W8_of m ρ c main_v127 (by decide))
  exact (congrFun e (ix2 b t)).trans (sumTable (W4 m ρ c) b t)

theorem start_rowTable (r t : Fin 512) :
    (V11 m ρ c main_v139 : FVec Ideal S512x512 .f32) (ix2 r t)
      = if t.val = 4 * (r.val % 128) + r.val / 128 then (1 : EReal) else 0 := rowTable (W4 m ρ c) r t

theorem start_gateRows (qd : Fin 4) (ch : Fin 384) (e : Fin 8) :
    (V11 m ρ c main_v113 : FVec Ideal S1536x8 .f32) (ix2 ⟨qd.val * 384 + ch.val, by omega⟩ e)
      = (inputs m c).Wfr (ix2 ⟨ch.val * 4 + qd.val, by omega⟩ e) := by
  have h : V11 m ρ c main_v113 = W5 m ρ c (Proc.devRef .tc main_v113) :=
    (W11_of m ρ c main_v113 (by decide)).trans <| (W10_of m ρ c main_v113 (by decide)).trans <|
      (W9_of m ρ c main_v113 (by decide)).trans <| (W8_of m ρ c main_v113 (by decide)).trans <|
      (W7_of m ρ c main_v113 (by decide)).trans (W6_of m ρ c main_v113 (by decide))
  exact (congrFun h _).trans ((gateRows (W4 m ρ c) qd ch e).trans (congrFun (W4_args m ρ c main_arg9 (by decide)) _))

theorem start_expertRows (qd : Fin 4) (ch : Fin 384) (e : Fin 8) (n : Fin 100) :
    (V11 m ρ c main_v118 : FVec Ideal S1536x800 .f32) (ix2 ⟨qd.val * 384 + ch.val, by omega⟩ ⟨e.val * 100 + n.val, by omega⟩)
      = (inputs m c).Wf (ix3 e ⟨ch.val * 4 + qd.val, by omega⟩ n) := by
  have h : V11 m ρ c main_v118 = W5 m ρ c (Proc.devRef .tc main_v118) :=
    (W11_of m ρ c main_v118 (by decide)).trans <| (W10_of m ρ c main_v118 (by decide)).trans <|
      (W9_of m ρ c main_v118 (by decide)).trans <| (W8_of m ρ c main_v118 (by decide)).trans <|
      (W7_of m ρ c main_v118 (by decide)).trans (W6_of m ρ c main_v118 (by decide))
  exact (congrFun h _).trans ((expertRows (W4 m ρ c) qd ch e n).trans (congrFun (W4_args m ρ c main_arg7 (by decide)) _))

theorem start_bias1 (t : Fin 1) (e : Fin 8) :
    (V11 m ρ c main_v140 : FVec Ideal S1x8 .f32) (ix2 t e) = (inputs m c).brg (ix1 e) :=
  (biasRow1 (W10 m ρ c) t e).trans (congrFun (W10_args m ρ c main_arg6 (by decide)) _)

theorem start_bias2 (t : Fin 1) (e : Fin 8) :
    (V11 m ρ c main_v141 : FVec Ideal S1x8 .f32) (ix2 t e) = (inputs m c).bfr (ix1 e) :=
  (biasRow2 (W10 m ρ c) t e).trans (congrFun (W10_args m ρ c main_arg10 (by decide)) _)

theorem start_gate (i : Fin 384) (j : Fin 8) :
    (V11 m ρ c main_arg5 : FVec Ideal S384x8 .f32) (ix2 i j) = (inputs m c).Wrg (ix2 i j) :=
  congrFun (W11_args m ρ c main_arg5 (by decide)) _

theorem start_bias (i : Fin 8) (j : Fin 100) :
    (V11 m ρ c main_arg8 : FVec Ideal S8x100 .f32) (ix2 i j) = (inputs m c).bf (ix2 i j) :=
  congrFun (W11_args m ρ c main_arg8 (by decide)) _

/-- What the body leaves at a point, on any blocks that read the arrays there. -/
theorem point1 (t : ℕ) (ht : t < 4) (x0 : Vec Ideal S512x3456 .f32) (x1 : Vec Ideal S128x512 .f32) (x2 : Vec Ideal S512x512 .f32)
    (x3 : Vec Ideal S384x8 .f32) (x4 : Vec Ideal S1x8 .f32) (x5 : Vec Ideal S1536x8 .f32) (x6 : Vec Ideal S1x8 .f32)
    (x7 : Vec Ideal S1536x800 .f32) (x8 : Vec Ideal S8x100 .f32)
    (h0 : ∀ (k : Fin 512) (j : Fin 3456), x0 (ix2 k j) = pooled m c ⟨t * 512 + k.val, by omega⟩ j)
    (h1 : ∀ b t, x1 (ix2 b t) = if t.val / 4 = b.val then 1 else 0)
    (h2 : ∀ r t, x2 (ix2 r t) = if t.val = 4 * (r.val % 128) + r.val / 128 then 1 else 0)
    (h3 : ∀ i j, x3 (ix2 i j) = (inputs m c).Wrg (ix2 i j))
    (h4 : ∀ i j, x4 (ix2 i j) = (inputs m c).brg (ix1 j))
    (h5 : ∀ (qd : Fin 4) (ch : Fin 384) e, x5 (ix2 ⟨qd.val * 384 + ch.val, by omega⟩ e) = (inputs m c).Wfr (ix2 ⟨ch.val * 4 + qd.val, by omega⟩ e))
    (h6 : ∀ i j, x6 (ix2 i j) = (inputs m c).bfr (ix1 j))
    (h7 : ∀ (qd : Fin 4) (ch : Fin 384) (e : Fin 8) (n : Fin 100),
      x7 (ix2 ⟨qd.val * 384 + ch.val, by omega⟩ ⟨e.val * 100 + n.val, by omega⟩) = (inputs m c).Wf (ix3 e ⟨ch.val * 4 + qd.val, by omega⟩ n))
    (h8 : ∀ i j, x8 (ix2 i j) = (inputs m c).bf (ix2 i j)) (b : Fin 128) (n : Fin 100) :
    (out1_9 x0 x1 x2 x3 x4 x5 x6 x7 x8 : Vec Ideal S128x100 .f32) (ix2 b n) = resultApart (inputs m c) ⟨t * 128 + b.val, by omega⟩ n := by
  rw [Cert.Head.out_apply x0 x1 x2 x3 x4 x5 x6 x7 x8 (inputs m c).Wfr (inputs m c).Wf h1 h2 h5 h7 b n]
  have e3 : x3 = (inputs m c).Wrg := funext fun i => by rw [eq_ix2 i]; exact h3 _ _
  have er : Cert.Head.Qr x0 b = rsum (inputs m c) ⟨t * 128 + b.val, by omega⟩ := by
    funext qd ch
    exact (h0 _ _).trans (pooled_router m c ⟨t * 128 + b.val, by omega⟩ qd ch _ _ (by dsimp only; omega) rfl)
  have ee : Cert.Head.Qe x0 b = esum (inputs m c) ⟨t * 128 + b.val, by omega⟩ := by
    funext qd e ch
    exact (h0 _ _).trans (pooled_expert m c ⟨t * 128 + b.val, by omega⟩ qd e ch _ _ (by dsimp only; omega) rfl)
  unfold Cert.Head.g2 Cert.Head.ft Cert.Head.g1
  simp only [er, ee, e3, h4, h6, h8]
  rfl

/-- The result array at exit. -/
theorem result_final :
    (dat1 (V11 m ρ) c).arrAt 9 cfg1.N = fun i : S512x100.Idx => resultApart (inputs m c) (i 0) (i 1) := by
  refine (dat1 (V11 m ρ) c).arrAt_eq_of_covers 9 _ (by decide +kernel) fun t hf y => ?_
  blk_simp
  rw [after1_9]
  have hb : (y 0).val < 128 := (y 0).isLt
  have hn : (y 1).val < 100 := (y 1).isLt
  have ht : t.val < 4 := t.isLt
  have hq : (win1_9.blk t).view.emb y 0 = (⟨t.val * 128 + (y 0).val, by omega⟩ : Fin 512) :=
    Fin.ext (by blk_simp [index1_9])
  have hc : (win1_9.blk t).view.emb y 1 = (⟨(y 1).val, hn⟩ : Fin 100) := Fin.ext (by blk_simp [index1_9])
  rw [hq, hc]
  exact (congrArg _ (eq_ix2 y)).trans (point1 m c t.val ht _ _ _ _ _ _ _ _ _
    (fun k j => (block1_0 c (V11 m ρ) t k j (by omega)).trans (start_sums m ρ c _ _))
    (fun i j => (block1_1 c (V11 m ρ) t i j).trans (start_sumTable m ρ c i j))
    (fun i j => (block1_2 c (V11 m ρ) t i j).trans (start_rowTable m ρ c i j))
    (fun i j => (block1_3 c (V11 m ρ) t i j).trans (start_gate m ρ c i j))
    (fun i j => (block1_4 c (V11 m ρ) t i j).trans (start_bias1 m ρ c i j))
    (fun qd ch e => (block1_5 c (V11 m ρ) t _ e).trans (start_gateRows m ρ c qd ch e))
    (fun i j => (block1_6 c (V11 m ρ) t i j).trans (start_bias2 m ρ c i j))
    (fun qd ch e n => (block1_7 c (V11 m ρ) t _ _).trans (start_expertRows m ρ c qd ch e n))
    (fun i j => (block1_8 c (V11 m ρ) t i j).trans (start_bias m ρ c i j))
    (⟨(y 0).val, hb⟩ : Fin 128) (⟨(y 1).val, hn⟩ : Fin 100))

end Cert.KernelIdeal.Gen

end
-- ==== Proof.RefConv.lean ====
/-
  The reference's two convolutions at an index: nine shifted products of the bordered image with the filter taps, added
  to a zero array and to the bias, are the 3x3 convolution of `Spec.conv`.
-/
module

public import proofs.«01_k».proof.Proof.Gen.ReferenceIdeal.Read
public import proofs.«01_k».proof.Proof.Sample

@[expose] public section

noncomputable section

namespace Cert.ReferenceIdeal.Read

open Idealize.ShloMosaic Idealize.ShloMosaic.TcCoe Cert.Spec Cert.ReferenceIdeal Cert.ReferenceIdeal.Gen

/-- The padding value. -/
theorem pad_value : (FloatOps.sitofp FTy.f32 0#32 : Ideal .f32) = (0 : EReal) := by
  show (((0#32 : BitVec 32).toInt : ℝ) : EReal) = 0
  simp

variable (x0 : FVec Ideal S512x3x32x32 .f32)

/-- The bordered image the router reads. -/
theorem border_router (b : Fin 512) (ci : Fin 3) (y z : Fin 34) :
    (val_main_v0 (F := Ideal) x0 (ix4 b ci y z) : EReal) = xpad x0 b ci y.val z.val := by
  unfold val_main_v0 val_main_call0_v0 val_main_c
  pointwise
  rw [pad_value]
  unfold xpad
  have h : ((1 ≤ y.val ∧ y.val - 1 < 32) ∧ 1 ≤ z.val ∧ z.val - 1 < 32) ↔ ((1 ≤ y.val ∧ y.val < 33) ∧ (1 ≤ z.val ∧ z.val < 33)) := by omega
  simp only [h]

/-- The bordered image the experts read is the same one. -/
theorem border_experts : val_main_v78 (F := Ideal) x0 = val_main_v0 (F := Ideal) x0 := rfl

/-- Nine taps, a bias and the order of the sums. -/
theorem conv_taps (w : Fin 3 → Fin 3 → Fin 3 → EReal) (bias : EReal) (b : Fin 512) (y z : ℕ) :
    conv x0 w bias b y z =
      (∑ ci, w ci 0 0 * xpad x0 b ci y z) + (∑ ci, w ci 0 1 * xpad x0 b ci y (1 + z)) + (∑ ci, w ci 0 2 * xpad x0 b ci y (2 + z))
        + (∑ ci, w ci 1 0 * xpad x0 b ci (1 + y) z) + (∑ ci, w ci 1 1 * xpad x0 b ci (1 + y) (1 + z)) + (∑ ci, w ci 1 2 * xpad x0 b ci (1 + y) (2 + z))
        + (∑ ci, w ci 2 0 * xpad x0 b ci (2 + y) z) + (∑ ci, w ci 2 1 * xpad x0 b ci (2 + y) (1 + z)) + (∑ ci, w ci 2 2 * xpad x0 b ci (2 + y) (2 + z))
        + bias := by
  unfold conv
  simp only [Fin.sum_univ_three, Fin.val_zero, Fin.val_one, Fin.val_two, add_zero]
  simp only [mul_comm (w _ _ _), add_comm 1 y, add_comm 1 z, add_comm 2 y, add_comm 2 z]
  abel

/-- The router's convolution. -/
theorem conv_router (x3 : FVec Ideal S384x3x3x3 .f32) (x4 : FVec Ideal S384 .f32) (b : Fin 512) (j : Fin 384) (y z : Fin 32) :
    (val_main_v58 (F := Ideal) x0 x3 x4 (ix4 b j y z) : EReal)
      = conv x0 (fun ci dy dx => x3 (ix4 j ci dy dx)) (x4 (ix1 j)) b y.val z.val := by
  unfold val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_cst
  rw [conv_taps]
  have h := border_router x0
  generalize val_main_v0 (F := Ideal) x0 = P at h ⊢
  pointwise
  simp only [h]

/-- The experts' convolutions. -/
theorem conv_experts (x1 : FVec Ideal S8x384x3x3x3 .f32) (x2 : FVec Ideal S8x384 .f32) (b : Fin 512) (e : Fin 8) (j : Fin 384) (y z : Fin 32) :
    (val_main_v138 (F := Ideal) x0 x1 x2 (ix5 e b j y z) : EReal)
      = conv x0 (fun ci dy dx => x1 (ix5 e j ci dy dx)) (x2 (ix2 e j)) b y.val z.val := by
  unfold val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_cst_6
  rw [conv_taps, border_experts]
  have h := border_router x0
  generalize val_main_v0 (F := Ideal) x0 = P at h ⊢
  pointwise
  simp only [h]

end Cert.ReferenceIdeal.Read

end
-- ==== Proof.RefValue.lean ====
/-
  The reference's result at an index: one sample's result with each linear expert's bias added to its output
  (`Spec.result`), for any argument arrays.
-/
module

public import proofs.«01_k».proof.Proof.RefConv

@[expose] public section

noncomputable section

namespace Cert.ReferenceIdeal.Read

open Idealize.ShloMosaic Idealize.ShloMosaic.TcCoe Cert.Spec Cert.ReferenceIdeal Cert.ReferenceIdeal.Gen

/-! ### Sums -/

/-- A 32x32 sum, quadrant by quadrant. -/
theorem sum_quads (f : ℕ → ℕ → EReal) :
    ∑ y : Fin 32, ∑ z : Fin 32, f y.val z.val =
      ∑ qd : Fin 4, ∑ p : Fin 256, f (16 * (qd.val / 2) + p.val / 16) (16 * (qd.val % 2) + p.val % 16) := by
  rw [sum_rows 2 16 32 rfl, sum_rows 2 2 4 rfl]
  refine Finset.sum_congr rfl fun a _ => ?_
  rw [Finset.sum_congr rfl fun u _ => sum_rows 2 16 32 rfl _, Finset.sum_comm]
  refine Finset.sum_congr rfl fun b _ => ?_
  rw [sum_rows 16 16 256 rfl]
  refine Finset.sum_congr rfl fun u _ => Finset.sum_congr rfl fun v _ => ?_
  congr 1 <;> (dsimp only; omega)

/-- One quadrant's pixels, row by row. -/
theorem sum_quad (qd : Fin 4) (f : ℕ → ℕ → EReal) :
    ∑ u : Fin 16, ∑ v : Fin 16, f (qd.val / 2 * 16 + u.val) (qd.val % 2 * 16 + v.val) =
      ∑ p : Fin 256, f (16 * (qd.val / 2) + p.val / 16) (16 * (qd.val % 2) + p.val % 16) := by
  rw [sum_rows 16 16 256 rfl]
  refine Finset.sum_congr rfl fun u _ => Finset.sum_congr rfl fun v _ => ?_
  congr 1 <;> (dsimp only; omega)

/-- A factor comes out of a sum of nonnegative terms. -/
theorem mul_sum_nonneg {ι : Type*} (s : Finset ι) (g : EReal) (f : ι → EReal) (h : ∀ i, 0 ≤ f i) :
    ∑ i ∈ s, g * f i = g * ∑ i ∈ s, f i := by
  classical
  induction s using Finset.induction_on with
  | empty => simp
  | insert a s ha ih =>
    rw [Finset.sum_insert ha, Finset.sum_insert ha, ih, EReal.left_distrib_of_nonneg (h a) (Finset.sum_nonneg fun i _ => h i)]

/-- The quadrants of an image, summed: axes 3 and 5 of the six-axis form. -/
theorem pool_axes (v : FVec Ideal S512x384x2x16x2x16 .f32) (b : Fin 512) (c : Fin 384) (qa qb : Fin 2) :
    Ideal.hostReduceAdd reducesTo_S512x384x2x16x2x16_S512x384x2x2_d3_5 v 0 (ix4 b c qa qb)
      = ∑ u : Fin 16, ∑ w : Fin 16, v (ix6 b c qa u qb w) := by
  unfold Ideal.hostReduceAdd
  rw [zero_add]
  refine (Finset.sum_filter_eq_sum_of_fiber _ (fun k : Fin 16 × Fin 16 => ix6 b c qa k.1 qb k.2)
    (fun _ _ e => Prod.ext (congrFun e 3) (congrFun e 5)) (fun i => ?_) v).trans ?_
  · constructor
    · intro e
      refine ⟨(i 3, i 5), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨k, rfl⟩
      funext a; apply Fin.ext
      match a with
      | ⟨0, _⟩ => rfl
      | ⟨1, _⟩ => rfl
      | ⟨2, _⟩ => rfl
      | ⟨3, _⟩ => rfl
  · simp only [Fintype.sum_prod_type]

/-- The six-axis form of an array of images, read at an index. -/
theorem six_axes (v : FVec Ideal S512x384x32x32 .f32) (b : Fin 512) (c : Fin 384) (qa qb : Fin 2) (u w : Fin 16) :
    shapeCast S512x384x2x16x2x16 v shapeCasts_S512x384x32x32_S512x384x2x16x2x16 (ix6 b c qa u qb w)
      = v (ix4 b c ⟨qa.val * 16 + u.val, by omega⟩ ⟨qb.val * 16 + w.val, by omega⟩) := by
  refine shapeCast_apply v shapeCasts_S512x384x32x32_S512x384x2x16x2x16 _ _ ?_
  rw [Shape.rowMajor_val_four, Shape.rowMajor_val_six]
  show ((b.val * 384 + c.val) * 32 + (qa.val * 16 + u.val)) * 32 + (qb.val * 16 + w.val)
    = ((((b.val * 384 + c.val) * 2 + qa.val) * 16 + u.val) * 2 + qb.val) * 16 + w.val
  omega

/-! ### Quotients and the largest logit -/

theorem div_1024 (x : EReal) : Ideal.div x (Ideal.ofBits .f32 0x44800000#32) = x * Ideal.ofBits .f32 0x3A800000#32 := by
  rw [lit_1024, lit_inv1024, Ideal.div_coe (by norm_num)]

theorem div_256 (x : EReal) : Ideal.div x (Ideal.ofBits .f32 0x43800000#32) = x * Ideal.ofBits .f32 0x3B800000#32 := by
  rw [lit_256, lit_inv256, Ideal.div_coe (by norm_num)]

theorem max_ninf (x : EReal) : max (Ideal.ofBits .f32 0xFF800000#32) x = x := by
  rw [lit_ninf]; exact max_eq_right bot_le

variable (x0 : FVec Ideal S512x3x32x32 .f32) (x1 : FVec Ideal S8x384x3x3x3 .f32) (x2 : FVec Ideal S8x384 .f32)
  (x3 : FVec Ideal S384x3x3x3 .f32) (x4 : FVec Ideal S384 .f32) (x5 : FVec Ideal S384x8 .f32) (x6 : FVec Ideal S8 .f32)
  (x7 : FVec Ideal S8x1536x100 .f32) (x8 : FVec Ideal S8x100 .f32) (x9 : FVec Ideal S1536x8 .f32) (x10 : FVec Ideal S8 .f32)

/-- The reference's argument arrays. -/
def args : Inputs where
  x := x0
  Wc := x1
  bc := x2
  Wrc := x3
  brc := x4
  Wrg := x5
  brg := x6
  Wf := x7
  bf := x8
  Wfr := x9
  bfr := x10

/-! ### The stages -/

/-- The first gate's logits. -/
theorem logits_router (b : Fin 512) (e : Fin 8) :
    (val_main_v66 (F := Ideal) x0 x3 x4 x5 x6 (ix2 b e) : EReal)
      = logits1 (rsum (args x0 x1 x2 x3 x4 x5 x6 x7 x8 x9 x10) b) x5 (fun e => x6 (ix1 e)) e := by
  have h : ∀ (c : Fin 384) (y z : Fin 32), (val_main_v59 (F := Ideal) x0 x3 x4 (ix4 b c y z) : EReal)
      = max (conv x0 (fun ci dy dx => x3 (ix4 c ci dy dx)) (x4 (ix1 c)) b y.val z.val) 0 := by
    intro c y z
    rw [← conv_router x0 x3 x4 b c y z]
    unfold val_main_v59 val_main_call1_v0 val_main_call1_cst
    generalize val_main_v58 (F := Ideal) x0 x3 x4 = L
    pointwise
  unfold val_main_v66 val_main_v65 val_main_v64 val_main_v63 val_main_v62 val_main_v61 val_main_v60 val_main_cst_0 val_main_cst_1
  generalize val_main_v59 (F := Ideal) x0 x3 x4 = L at h ⊢
  pointwise
  simp only [h, div_1024]
  unfold logits1 rsum Spec.pool
  refine congrArg (· + _) (Finset.sum_congr rfl fun c _ => ?_)
  rw [sum_quads fun y z => max (conv x0 (fun ci dy dx => x3 (ix4 c ci dy dx)) (x4 (ix1 c)) b y z) 0]
  rfl

/-- The first gate. -/
theorem gate_router (b : Fin 512) (e : Fin 8) :
    (val_main_v77 (F := Ideal) x0 x3 x4 x5 x6 (ix2 b e) : EReal) = gate1 (args x0 x1 x2 x3 x4 x5 x6 x7 x8 x9 x10) b e := by
  have h := logits_router x0 x1 x2 x3 x4 x5 x6 x7 x8 x9 x10 b
  unfold val_main_v77 val_main_v76 val_main_v75 val_main_v74 val_main_v73 val_main_v72 val_main_v71 val_main_v70 val_main_v69 val_main_v68 val_main_v67 val_main_cst_2 val_main_cst_3 val_main_cst_4
  generalize val_main_v66 (F := Ideal) x0 x3 x4 x5 x6 = L at h ⊢
  pointwise
  simp only [h, max_ninf]
  rfl

/-- The gated mixture of the experts' rectified convolutions. -/
theorem mixture (b : Fin 512) (c : Fin 384) (y z : Fin 32) :
    (val_main_v144 (F := Ideal) x0 x1 x2 x3 x4 x5 x6 (ix4 b c y z) : EReal)
      = ∑ e : Fin 8, gate1 (args x0 x1 x2 x3 x4 x5 x6 x7 x8 x9 x10) b e * max (conv x0 (fun ci dy dx => x1 (ix5 e c ci dy dx)) (x2 (ix2 e c)) b y.val z.val) 0 := by
  have hg := gate_router x0 x1 x2 x3 x4 x5 x6 x7 x8 x9 x10 b
  have hc := fun e => conv_experts x0 x1 x2 b e c y z
  unfold val_main_v144 val_main_v143 val_main_v142 val_main_v141 val_main_v140 val_main_v139 val_main_cst_7 val_main_call3_v0 val_main_call3_cst
  generalize val_main_v77 (F := Ideal) x0 x3 x4 x5 x6 = G at hg ⊢
  generalize val_main_v138 (F := Ideal) x0 x1 x2 = Q at hc ⊢
  pointwise
  simp only [hg, hc]

/-- The pooled features: feature `c * 4 + qd` is channel `c` in quadrant `qd`. -/
theorem features (b : Fin 512) (c : Fin 384) (qd : Fin 4) :
    (val_main_v149 (F := Ideal) x0 x1 x2 x3 x4 x5 x6 (ix2 b ⟨c.val * 4 + qd.val, by omega⟩) : EReal) = feats (args x0 x1 x2 x3 x4 x5 x6 x7 x8 x9 x10) b qd c := by
  have h := mixture x0 x1 x2 x3 x4 x5 x6 x7 x8 x9 x10 b c
  unfold val_main_v149 val_main_v148 val_main_v147 val_main_v146 val_main_v145 val_main_cst_8 val_main_cst_9
  generalize val_main_v144 (F := Ideal) x0 x1 x2 x3 x4 x5 x6 = P at h ⊢
  pointwise
  have hp := pool_axes (shapeCast S512x384x2x16x2x16 P shapeCasts_S512x384x32x32_S512x384x2x16x2x16) b c
    ⟨qd.val / 2, by omega⟩ ⟨qd.val % 2, by omega⟩
  simp only [six_axes, h] at hp
  unfold feats feat
  rw [div_256]
  refine congrArg (· * _) ?_
  refine (Eq.trans ?_ hp).trans ?_
  · congr 1; congr 1 <;> (apply Fin.ext; dsimp only; omega)
  rw [sum_quad qd fun y z => ∑ e : Fin 8, gate1 (args x0 x1 x2 x3 x4 x5 x6 x7 x8 x9 x10) b e * max (conv x0 (fun ci dy dx => x1 (ix5 e c ci dy dx)) (x2 (ix2 e c)) b y z) 0,
    Finset.sum_comm]
  exact Finset.sum_congr rfl fun e _ => mul_sum_nonneg _ _ _ fun p => le_max_right _ _

/-- The second gate's logits. -/
theorem logits_final (b : Fin 512) (e : Fin 8) :
    (val_main_v153 (F := Ideal) x0 x1 x2 x3 x4 x5 x6 x9 x10 (ix2 b e) : EReal)
      = logits2 (feats (args x0 x1 x2 x3 x4 x5 x6 x7 x8 x9 x10) b) x9 (fun e => x10 (ix1 e)) e := by
  have h := features x0 x1 x2 x3 x4 x5 x6 x7 x8 x9 x10 b
  unfold val_main_v153 val_main_v152 val_main_v151 val_main_v150
  generalize val_main_v149 (F := Ideal) x0 x1 x2 x3 x4 x5 x6 = P at h ⊢
  pointwise
  rw [sum_rows 384 4 1536 rfl]
  simp only [h]
  rfl

/-- The second gate. -/
theorem gate_final (b : Fin 512) (e : Fin 8) :
    (val_main_v164 (F := Ideal) x0 x1 x2 x3 x4 x5 x6 x9 x10 (ix2 b e) : EReal) = gate2 (args x0 x1 x2 x3 x4 x5 x6 x7 x8 x9 x10) b e := by
  have h := logits_final x0 x1 x2 x3 x4 x5 x6 x7 x8 x9 x10 b
  unfold val_main_v164 val_main_v163 val_main_v162 val_main_v161 val_main_v160 val_main_v159 val_main_v158 val_main_v157 val_main_v156 val_main_v155 val_main_v154 val_main_cst_10 val_main_cst_11 val_main_cst_12
  generalize val_main_v153 (F := Ideal) x0 x1 x2 x3 x4 x5 x6 x9 x10 = L at h ⊢
  pointwise
  simp only [h, max_ninf]
  rfl

/-- The result. -/
theorem result_apply (b : Fin 512) (n : Fin 100) :
    (val_main_v174 (F := Ideal) x0 x1 x2 x3 x4 x5 x6 x7 x8 x9 x10 (ix2 b n) : EReal) = result (args x0 x1 x2 x3 x4 x5 x6 x7 x8 x9 x10) b n := by
  have h := features x0 x1 x2 x3 x4 x5 x6 x7 x8 x9 x10 b
  have hg := gate_final x0 x1 x2 x3 x4 x5 x6 x7 x8 x9 x10 b
  unfold val_main_v174 val_main_v173 val_main_v172 val_main_v171 val_main_v170 val_main_v169 val_main_v168 val_main_v167 val_main_v166 val_main_v165 val_main_cst_13
  generalize val_main_v149 (F := Ideal) x0 x1 x2 x3 x4 x5 x6 = P at h ⊢
  generalize val_main_v164 (F := Ideal) x0 x1 x2 x3 x4 x5 x6 x9 x10 = Q at hg ⊢
  pointwise
  simp only [sum_rows 384 4 1536 rfl, h, hg]
  rfl

end Cert.ReferenceIdeal.Read

end
-- ==== Proof.Value.lean ====
/-
  The two runs at the end: the kernel's result array holds `resultApart` of the launch memory's arguments, the
  reference's holds `result` of its own, and the arguments of both end unchanged.
-/
module

public import proofs.«01_k».proof.Proof.Run
public import proofs.«01_k».proof.Proof.Final
public import proofs.«01_k».proof.Proof.RefValue
public import proofs.«01_k».proof.Proof.Gen.ReferenceIdeal.Run
public import proofs.«01_k».proof.Proof.Gen.ReferenceIdeal.Read

@[expose] public section

set_option maxRecDepth 16384

noncomputable section

namespace Cert.KernelIdeal.Gen

open Idealize.ShloMosaic Idealize.ShloMosaic.TcCoe Idealize.SL.Sem Cert.Spec

variable (m : (ℓ : Loc nD τ sig) → Buf (Elt Ideal) ℓ) (ρ : Dev nD → PrngReg)

/-- The kernel's run. -/
theorem run_result : θ_run defs (onTc (τ := τ) (main (F := Ideal))) ⟨m, fun _ => 0, ρ⟩ (fun r => ∀ c : Dev nD,
    r.2.mem ((c.tc : Thread nD τ).loc main_v142) = (fun i : S512x100.Idx => resultApart (inputs m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) := by
  refine (θ_run defs _ _).mono (fun r h c => ?_) (run_contents m ρ)
  have arg (a : Ref sig .tc) (hu : ¬ (Proc.devRef .tc a : DevRef τ sig).isScoped) (ha : a ∈ argRefs) :
      r.2.mem ((c.tc : Thread nD τ).loc a) = m ((c.tc : Thread nD τ).loc a) :=
    (h c _ (mem_uc a hu)).trans (W12_args m ρ c a ha)
  refine ⟨(h c _ (mem_uc main_v142 (by decide))).trans ((W12_arr m ρ c 9).trans (result_final m ρ c)), ?_⟩
  refine ⟨arg _ ?_ ?_, arg _ ?_ ?_, arg _ ?_ ?_, arg _ ?_ ?_, arg _ ?_ ?_, arg _ ?_ ?_, arg _ ?_ ?_, arg _ ?_ ?_, arg _ ?_ ?_,
    arg _ ?_ ?_, arg _ ?_ ?_⟩ <;> decide

end Cert.KernelIdeal.Gen

namespace Cert.ReferenceIdeal.Read

open Idealize.ShloMosaic Idealize.ShloMosaic.TcCoe Idealize.SL.Sem Cert.Spec Cert.ReferenceIdeal Cert.ReferenceIdeal.Gen

variable (m : (ℓ : Loc nD τ sig) → Buf (Elt Ideal) ℓ) (c : Dev nD)

/-- The argument arrays at launch. -/
def inputs : Inputs := args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10))

/-- What the reference's run leaves in its result array. -/
theorem result_end {v : S512x100.Idx → EReal}
    (h : v = val_main_v174 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) :
    v = fun i => result (inputs m c) (i 0) (i 1) := by
  funext i
  rw [h]
  obtain ⟨b, n, rfl⟩ : ∃ (b : Fin 512) (n : Fin 100), i = ix2 b n := ⟨i 0, i 1, eq_ix2 i⟩
  exact result_apply _ _ _ _ _ _ _ _ _ _ _ b n

/-- The reference's run. -/
theorem run_result (ρ : Dev nD → PrngReg) :
    θ_run defs (onTc (τ := τ) (main (F := Ideal))) ⟨m, fun _ => 0, ρ⟩ (fun r => ∀ c : Dev nD,
    r.2.mem ((c.tc : Thread nD τ).loc main_v174) = (fun i : S512x100.Idx => result (inputs m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run defs _ _).mono (fun _ h c => ⟨result_end m c ((h c).1.trans (val_main_v174_eq (StableHlo.launchContents m c))), (h c).2⟩)
    (Cert.ReferenceIdeal.Value.run (F := Ideal) m ρ)

end Cert.ReferenceIdeal.Read

end
-- ==== Proof.Finite.lean ====
/-
  With the gates' inputs finite, both gates are nonnegative reals, so the second gate distributes over a linear expert's
  output plus its bias whatever these two hold: the two forms of the result are one.
-/
module

public import proofs.«01_k».proof.Proof.Sample

@[expose] public section

noncomputable section

namespace Cert.Spec

open Idealize.ShloMosaic

/-- A finite extended real. -/
def IsReal (a : EReal) : Prop := ∃ r : ℝ, a = r

namespace IsReal

theorem zero : IsReal 0 := ⟨0, rfl⟩

theorem add {a b : EReal} (ha : IsReal a) (hb : IsReal b) : IsReal (a + b) := by
  obtain ⟨r, rfl⟩ := ha; obtain ⟨s, rfl⟩ := hb; exact ⟨r + s, (EReal.coe_add r s).symm⟩

theorem mul {a b : EReal} (ha : IsReal a) (hb : IsReal b) : IsReal (a * b) := by
  obtain ⟨r, rfl⟩ := ha; obtain ⟨s, rfl⟩ := hb; exact ⟨r * s, (EReal.coe_mul r s).symm⟩

theorem max {a b : EReal} (ha : IsReal a) (hb : IsReal b) : IsReal (max a b) := by
  rcases max_choice a b with h | h <;> rw [h] <;> assumption

theorem sum {ι : Type*} (t : Finset ι) (f : ι → EReal) (h : ∀ i, IsReal (f i)) : IsReal (∑ i ∈ t, f i) :=
  Finset.sum_induction f IsReal (fun _ _ => add) zero fun i _ => h i

/-- What lies below infinity in absolute value is finite. -/
theorem of_abs_lt {a : EReal} (h : Max.max a (-a) < ⊤) : IsReal a := by
  induction a using EReal.rec with
  | bot => simp at h
  | coe r => exact ⟨r, rfl⟩
  | top => simp at h

end IsReal

/-- A finite sum of reals, read in the extended reals. -/
theorem sum_coe {ι : Type*} (t : Finset ι) (f : ι → ℝ) : (∑ i ∈ t, (f i : EReal)) = ((∑ i ∈ t, f i : ℝ) : EReal) :=
  (map_sum (⟨⟨Real.toEReal, EReal.coe_zero⟩, EReal.coe_add⟩ : ℝ →+ EReal) f t).symm

/-- The softmax of finite logits is finite and nonnegative. -/
theorem smax_real (l : Fin 8 → EReal) (h : ∀ e, IsReal (l e)) (e : Fin 8) : ∃ r : ℝ, 0 ≤ r ∧ smax l e = r := by
  have hM : IsReal (Finset.univ.fold max (Ideal.ofBits .f32 0xFF800000#32) l) := by
    rw [lit_ninf]
    obtain ⟨j, -, hj⟩ := Finset.exists_mem_eq_sup Finset.univ ⟨(0 : Fin 8), Finset.mem_univ _⟩ l
    exact (show Finset.univ.fold max ⊥ l = l j from hj) ▸ h j
  unfold smax
  obtain ⟨M, hM⟩ := hM
  rw [hM]
  choose r hr using h
  have hx : ∀ e', Ideal.exp (l e' - (M : EReal)) = ((Real.exp (r e' - M) : ℝ) : EReal) := fun e' => by
    rw [hr e', ← EReal.coe_sub, Ideal.exp_coe]
  have hp : 0 < ∑ e' : Fin 8, Real.exp (r e' - M) :=
    Finset.sum_pos (fun e' _ => Real.exp_pos _) ⟨(0 : Fin 8), Finset.mem_univ _⟩
  simp only [hx, sum_coe]
  rw [Ideal.div_coe hp.ne', ← EReal.coe_mul]
  exact ⟨_, mul_nonneg (Real.exp_pos _).le (by positivity), rfl⟩

/-- A finite image under finite weights has finite quadrant sums. -/
theorem pool_real (x : (⟨4, ![512, 3, 32, 32]⟩ : Shape).Idx → EReal) (w : Fin 3 → Fin 3 → Fin 3 → EReal) (bias : EReal)
    (b : Fin 512) (qd : Fin 4) (hx : ∀ i, IsReal (x i)) (hw : ∀ ci dy dx, IsReal (w ci dy dx)) (hb : IsReal bias) :
    IsReal (pool x w bias b qd) := by
  have hpad : ∀ ci y z, IsReal (xpad x b ci y z) := fun ci y z => by
    unfold xpad
    split
    · exact hx _
    · exact .zero
  exact .sum _ _ fun p => .max (.add (.sum _ _ fun ci => .sum _ _ fun dy => .sum _ _ fun dx =>
    .mul (hpad _ _ _) (hw _ _ _)) hb) .zero

/-- Everything the gates read is finite: the images, the convolutions' filters and biases, and the gates' own weights. -/
structure Inputs.GatesFinite (I : Inputs) : Prop where
  x : ∀ i, IsReal (I.x i)
  Wc : ∀ i, IsReal (I.Wc i)
  bc : ∀ i, IsReal (I.bc i)
  Wrc : ∀ i, IsReal (I.Wrc i)
  brc : ∀ i, IsReal (I.brc i)
  Wrg : ∀ i, IsReal (I.Wrg i)
  brg : ∀ i, IsReal (I.brg i)
  Wfr : ∀ i, IsReal (I.Wfr i)
  bfr : ∀ i, IsReal (I.bfr i)

variable {I : Inputs} (h : I.GatesFinite) (s : Fin 512)
include h

theorem gate1_real (e : Fin 8) : IsReal (gate1 I s e) := by
  obtain ⟨r, -, hr⟩ := smax_real (logits1 (rsum I s) I.Wrg fun e => I.brg (ix1 e)) (fun e =>
    .add (.sum _ _ fun c => .mul (.mul (.sum _ _ fun qd =>
      pool_real _ _ _ _ _ h.x (fun _ _ _ => h.Wrc _) (h.brc _)) ⟨_, lit_inv1024⟩) (h.Wrg _)) (h.brg _)) e
  exact ⟨r, hr⟩

theorem feats_real (qd : Fin 4) (c : Fin 384) : IsReal (feats I s qd c) :=
  .mul (.sum _ _ fun e => .mul (gate1_real h s e) (pool_real _ _ _ _ _ h.x (fun _ _ _ => h.Wc _) (h.bc _))) ⟨_, lit_inv256⟩

theorem gate2_real (e : Fin 8) : ∃ r : ℝ, 0 ≤ r ∧ gate2 I s e = r :=
  smax_real _ (fun e => .add (.sum _ _ fun c => .sum _ _ fun qd => .mul (feats_real h s qd c) (h.Wfr _)) (h.bfr _)) e

/-- The two forms of the result agree. -/
theorem result_apart (n : Fin 100) : resultApart I s n = result I s n := by
  unfold resultApart result mixApart mix
  rw [← Finset.sum_add_distrib]
  refine Finset.sum_congr rfl fun e _ => ?_
  obtain ⟨r, h0, hr⟩ := gate2_real h s e
  rw [hr]
  exact (EReal.left_distrib_of_nonneg_of_ne_top (EReal.coe_nonneg.mpr h0) (EReal.coe_ne_top r) _ _).symm

end Cert.Spec

end
-- ==== Proof.Precondition.lean ====
/-
  What the precondition says of the launch memory: each of the nine arrays the gates read holds only finite numbers.
-/
module

public import proofs.«01_k».proof.Defs
public import proofs.«01_k».proof.Proof.Finite
public import proofs.«01_k».proof.Proof.Final

@[expose] public section

noncomputable section

namespace Cert.Pre_gates_finite

open Idealize.ShloMosaic Cert.Spec

theorem facts : Facts where
  bcast_S_S512x3x32x32 := by decide
  bcast_S_S8x384x3x3x3 := by decide
  bcast_S_S8x384 := by decide
  bcast_S_S384x3x3x3 := by decide
  bcast_S_S384 := by decide
  bcast_S_S384x8 := by decide
  bcast_S_S8 := by decide
  bcast_S_S1536x8 := by decide

/-- An array whose test "below infinity in absolute value" is all ones is finite. -/
theorem finite_of_test {s : Shape} (dims : Fin S_.rank → Fin s.rank) (hd : S_.BroadcastsInDim s dims) (a : FVec Ideal s .f32)
    (h : cmpf .olt (Host.absf a) (broadcastInDim s dims hd (constant (F := Ideal) S_ .f32 0x7F800000#32)) = fun _ => 1#1)
    (i : s.Idx) : IsReal (a i : EReal) := by
  have hi : BitVec.ofBool (decide (max (a i : EReal) (-(a i : EReal)) < Ideal.ofBits .f32 0x7F800000#32)) = 1#1 := congrFun h i
  rw [lit_pinf] at hi
  refine .of_abs_lt ?_
  by_contra hn
  rw [decide_eq_false hn] at hi
  exact absurd hi (by decide)

end Cert.Pre_gates_finite

namespace Cert.KernelIdeal.Gen

open Idealize.ShloMosaic Idealize.ShloMosaic.TcCoe Cert.Spec

/-- Under the precondition the gates' inputs are finite. -/
theorem inputs_finite [Cert.Pre_gates_finite.Facts] (m : (ℓ : Loc nD τ sig) → Buf (Elt Ideal) ℓ)
    (h : Cert.Pre_KernelIdeal_gates_finite m) (c : Dev nD) : (inputs m c).GatesFinite := by
  obtain ⟨h0, h1, h2, h3, h4, h5, h6, h9, h10⟩ := h c
  exact ⟨Cert.Pre_gates_finite.finite_of_test _ _ _ h0, Cert.Pre_gates_finite.finite_of_test _ _ _ h1,
    Cert.Pre_gates_finite.finite_of_test _ _ _ h2, Cert.Pre_gates_finite.finite_of_test _ _ _ h3,
    Cert.Pre_gates_finite.finite_of_test _ _ _ h4, Cert.Pre_gates_finite.finite_of_test _ _ _ h5,
    Cert.Pre_gates_finite.finite_of_test _ _ _ h6, Cert.Pre_gates_finite.finite_of_test _ _ _ h9,
    Cert.Pre_gates_finite.finite_of_test _ _ _ h10⟩

end Cert.KernelIdeal.Gen

end
-- ==== Proof.lean ====
/-
  The proof of `Cert.Claim` (proofs.«01_k».proof.Defs): the three frames, the idealization, and the value claim. The kernel's
  result mixes the last biases apart and the reference's does not; the two agree where the gates' inputs are finite.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Value
public import proofs.«01_k».proof.Proof.Precondition
public import Idealize.ShloMosaic.Lib.Quiescent

@[expose] public section

-- the two programs' arguments agree as arrays of one type, which is found by looking each up in its program's table
set_option maxHeartbeats 4000000

noncomputable section

namespace Cert.Proof

open Idealize.ShloMosaic Idealize.SL.Sem Cert.Spec

/-- The reference's frame. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Read.run_result m ρ)

/-- Equal fields make equal inputs. -/
theorem inputs_ext {I J : Inputs} (h : I.x = J.x ∧ I.Wc = J.Wc ∧ I.bc = J.bc ∧ I.Wrc = J.Wrc ∧ I.brc = J.brc ∧ I.Wrg = J.Wrg
    ∧ I.brg = J.brg ∧ I.Wf = J.Wf ∧ I.bf = J.bf ∧ I.Wfr = J.Wfr ∧ I.bfr = J.bfr) : I = J := by
  cases I; cases J; simpa using h

/-- The value claim. -/
theorem algebraic : Cert.algebraic_KernelIdeal_ReferenceIdeal_pre_gates_finite (hKernelIdeal := Cert.KernelIdeal.Gen.facts)
    (hReferenceIdeal := Cert.ReferenceIdeal.Gen.facts) (hPre_gates_finite := Cert.Pre_gates_finite.facts) := by
  intro m ρ m' ρ' hpre hag
  refine ⟨_, Cert.KernelIdeal.Gen.run_result m ρ,
    (θ_run Cert.ReferenceIdeal.defs _ _).mono (fun r h c => ⟨(h c).1.trans ?_, (h c).2⟩) (Cert.ReferenceIdeal.Read.run_result m' ρ')⟩
  have he : Cert.ReferenceIdeal.Read.inputs m' c = Cert.KernelIdeal.Gen.inputs m c := inputs_ext (hag c)
  have hf := @Cert.KernelIdeal.Gen.inputs_finite Cert.Pre_gates_finite.facts m hpre c
  funext i
  rw [he]
  exact (result_apart hf _ _).symm

theorem claim : Cert.Claim := ⟨Cert.Kernel.Gen.facts, Cert.KernelIdeal.Gen.facts, Cert.ReferenceIdeal.Gen.facts, Cert.Pre_gates_finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
